-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S256x1024x64 : Shape := ⟨3, ![256, 1024, 64]⟩
abbrev S1x64 : Shape := ⟨2, ![1, 64]⟩
abbrev S64x64 : Shape := ⟨2, ![64, 64]⟩
abbrev S256 : Shape := ⟨1, ![256]⟩
abbrev S255 : Shape := ⟨1, ![255]⟩
abbrev S_ : Shape := ⟨0, ![]⟩
abbrev S262144x64 : Shape := ⟨2, ![262144, 64]⟩
abbrev S262144 : Shape := ⟨1, ![262144]⟩
abbrev S262144x1 : Shape := ⟨2, ![262144, 1]⟩
abbrev S64 : Shape := ⟨1, ![64]⟩
abbrev S1 : Shape := ⟨1, ![1]⟩
abbrev S262144x64x1 : Shape := ⟨3, ![262144, 64, 1]⟩
abbrev S1x1x255 : Shape := ⟨3, ![1, 1, 255]⟩
abbrev S262144x64x255 : Shape := ⟨3, ![262144, 64, 255]⟩
abbrev S254 : Shape := ⟨1, ![254]⟩
abbrev S262144x1x1 : Shape := ⟨3, ![262144, 1, 1]⟩

class Facts : Prop where
  slices_S256_S255_0 : S256.Slices ![0] S255
  slices_S256_S255_1 : S256.Slices ![1] S255
  bcast_S_S255 : S_.BroadcastsInDim S255 (![] : Fin 0 → Fin S255.rank)
  shapeCasts_S256x1024x64_S262144x64 : S256x1024x64.ShapeCasts S262144x64
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  shapeCasts_S1x64_S64 : S1x64.ShapeCasts S64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S256_S1_255 : S256.Slices ![255] S1
  shapeCasts_S1_S_ : S1.ShapeCasts S_
  bcast_S262144x64_S262144x64x1_0_1 : S262144x64.BroadcastsInDim S262144x64x1 (![0, 1] : Fin 2 → Fin S262144x64x1.rank)
  bcast_S255_S1x1x255_2 : S255.BroadcastsInDim S1x1x255 (![2] : Fin 1 → Fin S1x1x255.rank)
  bcast_S1x1x255_S262144x64x255_0_1_2 : S1x1x255.BroadcastsInDim S262144x64x255 (![0, 1, 2] : Fin 3 → Fin S262144x64x255.rank)
  bcast_S262144x64x1_S262144x64x255_0_1_2 : S262144x64x1.BroadcastsInDim S262144x64x255 (![0, 1, 2] : Fin 3 → Fin S262144x64x255.rank)
  natLt_1_32 : 1 < 32
  reducesTo_S262144x64x255_S262144x64_d2 : S262144x64x255.ReducesTo [2] S262144x64
  bcast_S_S1x64 : S_.BroadcastsInDim S1x64 (![] : Fin 0 → Fin S1x64.rank)
  bcast_S_S64x64 : S_.BroadcastsInDim S64x64 (![] : Fin 0 → Fin S64x64.rank)
  bcast_S_S256 : S_.BroadcastsInDim S256 (![] : Fin 0 → Fin S256.rank)
  slices_S255_S254_1 : S255.Slices ![1] S254
  slices_S255_S254_0 : S255.Slices ![0] S254
  bcast_S_S254 : S_.BroadcastsInDim S254 (![] : Fin 0 → Fin S254.rank)
  bcast_S_S262144x64x1 : S_.BroadcastsInDim S262144x64x1 (![] : Fin 0 → Fin S262144x64x1.rank)
  bcast_S262144x1_S262144x1x1_0_1 : S262144x1.BroadcastsInDim S262144x1x1 (![0, 1] : Fin 2 → Fin S262144x1x1.rank)
  bcast_S262144x1x1_S262144x64x1_0_1_2 : S262144x1x1.BroadcastsInDim S262144x64x1 (![0, 1, 2] : Fin 3 → Fin S262144x64x1.rank)
  dot_S262144x64_S64x64_S262144x64_1_0_0_1_n_n_wf : DotDims.WF S262144x64 S64x64 S262144x64 [1] [0] [0] [1] [] []
  gather_S256_S262144x64x1_S262144x64_n_0_n_n_0_2_1_wf : GatherDims.WF S256 S262144x64x1 S262144x64 [] [0] [] [0] [] 2 ![1]

variable [Facts]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def gather_S256_S262144x64x1_S262144x64_n_0_n_n_0_2_1 : GatherDims S256 S262144x64x1 S262144x64 where
  offsetDims := []
  collapsedSliceDims := [0]
  operandBatchingDims := []
  startIndicesBatchingDims := []
  startIndexMap := [0]
  indexVectorDim := 2
  sliceSizes := ![1]
  wf := gather_S256_S262144x64x1_S262144x64_n_0_n_n_0_2_1_wf
def fn_part6 {F : FTy → Type} [FloatOps F] (main_v76 : IVec S1x64 1) (main_v79 : IVec S64x64 1) (main_v82 : IVec S256 1) (main_v85 : IVec S256 1) (main_v88 : IVec S_ 1) (main_v93 : IVec S254 1) (main_v95 : IVec S255 1) (main_v105 : IVec S262144x64x255 1) (main_v116 : IVec S262144x64x255 1) (main_v117 : IVec S262144x64x255 1) : IVec S1x64 1 × IVec S64x64 1 × IVec S256 1 × IVec S256 1 × IVec S_ 1 × IVec S254 1 × IVec S255 1 × IVec S262144x64x255 1 × IVec S262144x64x255 1 :=
  let main_v118 : IVec S262144x64x255 1 := ori main_v117 main_v116
  (main_v76, main_v79, main_v82, main_v85, main_v88, main_v93, main_v95, main_v105, main_v118)

def fn_part5 {F : FTy → Type} [FloatOps F] (main_v4 : FVec F S255 .f32) (main_v31 : FVec F S262144x64 .f32) (main_v63 : FVec F S262144x64 .f32) (main_v73 : IVec S262144x1 1) (main_v76 : IVec S1x64 1) (main_v79 : IVec S64x64 1) (main_v82 : IVec S256 1) (main_v85 : IVec S256 1) (main_v88 : IVec S_ 1) (main_v93 : IVec S254 1) (main_v95 : IVec S255 1) : IVec S1x64 1 × IVec S64x64 1 × IVec S256 1 × IVec S256 1 × IVec S_ 1 × IVec S254 1 × IVec S255 1 × IVec S262144x64x255 1 × IVec S262144x64x255 1 :=
  let main_v96 : FVec F S262144x64x1 .f32 := broadcastInDim S262144x64x1 ![0, 1] bcast_S262144x64_S262144x64x1_0_1 main_v31
  let main_cst_22 : FVec F S_ .f32 := constant S_ .f32 0x00000000#32
  let main_v97 : FVec F S262144x64x1 .f32 := broadcastInDim S262144x64x1 ![] bcast_S_S262144x64x1 main_cst_22
  let main_v98 : IVec S262144x64x1 1 := cmpf .oge main_v96 main_v97
  let main_v99 : FVec F S262144x64x1 .f32 := broadcastInDim S262144x64x1 ![0, 1] bcast_S262144x64_S262144x64x1_0_1 main_v31
  let main_v100 : FVec F S1x1x255 .f32 := broadcastInDim S1x1x255 ![2] bcast_S255_S1x1x255_2 main_v4
  let main_v101 : FVec F S262144x64x255 .f32 := broadcastInDim S262144x64x255 ![0, 1, 2] bcast_S262144x64x1_S262144x64x255_0_1_2 main_v99
  let main_v102 : FVec F S262144x64x255 .f32 := broadcastInDim S262144x64x255 ![0, 1, 2] bcast_S1x1x255_S262144x64x255_0_1_2 main_v100
  let main_v103 : IVec S262144x64x255 1 := cmpf .une main_v101 main_v102
  let main_v104 : IVec S262144x64x255 1 := broadcastInDim S262144x64x255 ![0, 1, 2] bcast_S262144x64x1_S262144x64x255_0_1_2 main_v98
  let main_v105 : IVec S262144x64x255 1 := ori main_v104 main_v103
  let main_v106 : IVec S262144x1x1 1 := broadcastInDim S262144x1x1 ![0, 1] bcast_S262144x1_S262144x1x1_0_1 main_v73
  let main_v107 : FVec F S262144x64x1 .f32 := broadcastInDim S262144x64x1 ![0, 1] bcast_S262144x64_S262144x64x1_0_1 main_v63
  let main_cst_23 : FVec F S_ .f32 := constant S_ .f32 0x00000000#32
  let main_v108 : FVec F S262144x64x1 .f32 := broadcastInDim S262144x64x1 ![] bcast_S_S262144x64x1 main_cst_23
  let main_v109 : IVec S262144x64x1 1 := cmpf .oge main_v107 main_v108
  let main_v110 : IVec S262144x64x1 1 := broadcastInDim S262144x64x1 ![0, 1, 2] bcast_S262144x1x1_S262144x64x1_0_1_2 main_v106
  let main_v111 : IVec S262144x64x1 1 := ori main_v110 main_v109
  let main_v112 : FVec F S262144x64x1 .f32 := broadcastInDim S262144x64x1 ![0, 1] bcast_S262144x64_S262144x64x1_0_1 main_v63
  let main_v113 : FVec F S1x1x255 .f32 := broadcastInDim S1x1x255 ![2] bcast_S255_S1x1x255_2 main_v4
  let main_v114 : FVec F S262144x64x255 .f32 := broadcastInDim S262144x64x255 ![0, 1, 2] bcast_S262144x64x1_S262144x64x255_0_1_2 main_v112
  let main_v115 : FVec F S262144x64x255 .f32 := broadcastInDim S262144x64x255 ![0, 1, 2] bcast_S1x1x255_S262144x64x255_0_1_2 main_v113
  let main_v116 : IVec S262144x64x255 1 := cmpf .une main_v114 main_v115
  let main_v117 : IVec S262144x64x255 1 := broadcastInDim S262144x64x255 ![0, 1, 2] bcast_S262144x64x1_S262144x64x255_0_1_2 main_v111
  fn_part6 (F := F) main_v76 main_v79 main_v82 main_v85 main_v88 main_v93 main_v95 main_v105 main_v116 main_v117

def fn_part4 {F : FTy → Type} [FloatOps F] (main_arg2 : FVec F S64x64 .f32) (main_arg3 : FVec F S256 .f32) (main_v4 : FVec F S255 .f32) (main_v31 : FVec F S262144x64 .f32) (main_v63 : FVec F S262144x64 .f32) (main_v73 : IVec S262144x1 1) (main_v76 : IVec S1x64 1) : IVec S1x64 1 × IVec S64x64 1 × IVec S256 1 × IVec S256 1 × IVec S_ 1 × IVec S254 1 × IVec S255 1 × IVec S262144x64x255 1 × IVec S262144x64x255 1 :=
  let main_v77 : FVec F S64x64 .f32 := Host.absf main_arg2
  let main_cst_17 : FVec F S_ .f32 := constant S_ .f32 0x7F800000#32
  let main_v78 : FVec F S64x64 .f32 := broadcastInDim S64x64 ![] bcast_S_S64x64 main_cst_17
  let main_v79 : IVec S64x64 1 := cmpf .olt main_v77 main_v78
  let main_v80 : FVec F S256 .f32 := Host.absf main_arg3
  let main_cst_18 : FVec F S_ .f32 := constant S_ .f32 0x7F800000#32
  let main_v81 : FVec F S256 .f32 := broadcastInDim S256 ![] bcast_S_S256 main_cst_18
  let main_v82 : IVec S256 1 := cmpf .olt main_v80 main_v81
  let main_v83 : FVec F S256 .f32 := Host.reverse [0] main_arg3
  let main_v84 : FVec F S256 .f32 := Host.negf main_v83
  let main_v85 : IVec S256 1 := cmpf .oeq main_arg3 main_v84
  let main_v86 : FVec F S1 .f32 := (extractStridedSlice S1 ![255] · slices_S256_S1_255) main_arg3
  let main_v87 : FVec F S_ .f32 := shapeCast S_ main_v86 shapeCasts_S1_S_
  let main_cst_19 : FVec F S_ .f32 := constant S_ .f32 0x00000000#32
  let main_v88 : IVec S_ 1 := cmpf .ogt main_v87 main_cst_19
  let main_v89 : FVec F S254 .f32 := (extractStridedSlice S254 ![1] · slices_S255_S254_1) main_v4
  let main_v90 : FVec F S254 .f32 := (extractStridedSlice S254 ![0] · slices_S255_S254_0) main_v4
  let main_v91 : FVec F S254 .f32 := subf main_v89 main_v90
  let main_cst_20 : FVec F S_ .f32 := constant S_ .f32 0x3CA4A8C1#32
  let main_v92 : FVec F S254 .f32 := broadcastInDim S254 ![] bcast_S_S254 main_cst_20
  let main_v93 : IVec S254 1 := cmpf .oge main_v91 main_v92
  let main_cst_21 : FVec F S_ .f32 := constant S_ .f32 0x40A33333#32
  let main_v94 : FVec F S255 .f32 := broadcastInDim S255 ![] bcast_S_S255 main_cst_21
  let main_v95 : IVec S255 1 := cmpf .olt main_v4 main_v94
  fn_part5 (F := F) main_v4 main_v31 main_v63 main_v73 main_v76 main_v79 main_v82 main_v85 main_v88 main_v93 main_v95

def fn_part3 {F : FTy → Type} [FloatOps F] (main_arg1 : FVec F S1x64 .f32) (main_arg2 : FVec F S64x64 .f32) (main_arg3 : FVec F S256 .f32) (main_v4 : FVec F S255 .f32) (main_v20 : FVec F S262144x64 .f32) (main_v25 : FVec F S262144x1 .f32) (main_v31 : FVec F S262144x64 .f32) (main_v53 : FVec F S262144x1 .f32) (main_v58 : FVec F S262144x1 .f32) : IVec S1x64 1 × IVec S64x64 1 × IVec S256 1 × IVec S256 1 × IVec S_ 1 × IVec S254 1 × IVec S255 1 × IVec S262144x64x255 1 × IVec S262144x64x255 1 :=
  let main_v59 : FVec F S262144x1 .f32 := Host.divf main_v53 main_v58
  let main_cst_11 : FVec F S_ .f32 := constant S_ .f32 0x322BCC77#32
  let main_v60 : FVec F S262144x1 .f32 := broadcastInDim S262144x1 ![] bcast_S_S262144x1 main_cst_11
  let main_v61 : FVec F S262144x1 .f32 := addf main_v59 main_v60
  let main_v62 : FVec F S262144x64 .f32 := broadcastInDim S262144x64 ![0, 1] bcast_S262144x1_S262144x64_0_1 main_v61
  let main_v63 : FVec F S262144x64 .f32 := Host.divf main_v20 main_v62
  let main_v64 : FVec F S262144x64 .f32 := Host.absf main_v20
  let main_cst_12 : FVec F S_ .f32 := constant S_ .f32 0x00000000#32
  let main_v65 : FVec F S262144 .f32 := (fun x v => Host.reduceAdd x v reducesTo_S262144x64_S262144_d1 h_S_) main_v64 main_cst_12
  let main_v66 : FVec F S262144x1 .f32 := broadcastInDim S262144x1 ![0] bcast_S262144_S262144x1_0 main_v65
  let main_cst_13 : FVec F S_ .f32 := constant S_ .f32 0x42800000#32
  let main_v67 : FVec F S262144x1 .f32 := broadcastInDim S262144x1 ![] bcast_S_S262144x1 main_cst_13
  let main_v68 : FVec F S262144x1 .f32 := Host.divf main_v66 main_v67
  let main_cst_14 : FVec F S_ .f32 := constant S_ .f32 0x322BCC77#32
  let main_v69 : FVec F S262144x1 .f32 := broadcastInDim S262144x1 ![] bcast_S_S262144x1 main_cst_14
  let main_v70 : FVec F S262144x1 .f32 := addf main_v68 main_v69
  let main_v71 : FVec F S262144x1 .f32 := Host.divf main_v25 main_v70
  let main_cst_15 : FVec F S_ .f32 := constant S_ .f32 0x40A00000#32
  let main_v72 : FVec F S262144x1 .f32 := broadcastInDim S262144x1 ![] bcast_S_S262144x1 main_cst_15
  let main_v73 : IVec S262144x1 1 := cmpf .ogt main_v71 main_v72
  let main_v74 : FVec F S1x64 .f32 := Host.absf main_arg1
  let main_cst_16 : FVec F S_ .f32 := constant S_ .f32 0x7F800000#32
  let main_v75 : FVec F S1x64 .f32 := broadcastInDim S1x64 ![] bcast_S_S1x64 main_cst_16
  let main_v76 : IVec S1x64 1 := cmpf .olt main_v74 main_v75
  fn_part4 (F := F) main_arg2 main_arg3 main_v4 main_v31 main_v63 main_v73 main_v76

def fn_part2 {F : FTy → Type} [FloatOps F] (main_arg1 : FVec F S1x64 .f32) (main_arg2 : FVec F S64x64 .f32) (main_arg3 : FVec F S256 .f32) (main_v4 : FVec F S255 .f32) (main_v20 : FVec F S262144x64 .f32) (main_v25 : FVec F S262144x1 .f32) (main_v31 : FVec F S262144x64 .f32) (main_v39 : FVec F S262144x64x255 .f32) (main_v40 : FVec F S262144x64x255 .f32) : IVec S1x64 1 × IVec S64x64 1 × IVec S256 1 × IVec S256 1 × IVec S_ 1 × IVec S254 1 × IVec S255 1 × IVec S262144x64x255 1 × IVec S262144x64x255 1 :=
  let main_v41 : IVec S262144x64x255 1 := cmpf .olt main_v39 main_v40
  let main_v42 : IVec S262144x64x255 32 := (extui 32 · natLt_1_32) main_v41
  let main_c : IVec S_ 32 := constantI S_ 32 0#32
  let main_v43 : IVec S262144x64 32 := (fun x v => Host.reduce IntOp.addi x v reducesTo_S262144x64x255_S262144x64_d2 h_S_) main_v42 main_c
  let main_c_6 : IVec S_ 32 := constantI S_ 32 0#32
  let main_v44 : IVec S262144x64 32 := broadcastInDim S262144x64 ![] bcast_S_S262144x64 main_c_6
  let main_v45 : IVec S262144x64 1 := cmpi .slt main_v43 main_v44
  let main_c_7 : IVec S_ 32 := constantI S_ 32 256#32
  let main_v46 : IVec S262144x64 32 := broadcastInDim S262144x64 ![] bcast_S_S262144x64 main_c_7
  let main_v47 : IVec S262144x64 32 := addi main_v43 main_v46
  let main_v48 : IVec S262144x64 32 := select main_v45 main_v47 main_v43
  let main_v49 : IVec S262144x64x1 32 := broadcastInDim S262144x64x1 ![0, 1] bcast_S262144x64_S262144x64x1_0_1 main_v48
  let main_v50 : FVec F S262144x64 .f32 := (fun x i => Host.gather gather_S256_S262144x64x1_S262144x64_n_0_n_n_0_2_1 x i) main_arg3 main_v49
  let main_v51 : FVec F S262144x64 .f32 := mulf main_v20 main_v50
  let main_cst_8 : FVec F S_ .f32 := constant S_ .f32 0x00000000#32
  let main_v52 : FVec F S262144 .f32 := (fun x v => Host.reduceAdd x v reducesTo_S262144x64_S262144_d1 h_S_) main_v51 main_cst_8
  let main_v53 : FVec F S262144x1 .f32 := broadcastInDim S262144x1 ![0] bcast_S262144_S262144x1_0 main_v52
  let main_v54 : FVec F S262144x64 .f32 := mulf main_v50 main_v50
  let main_cst_9 : FVec F S_ .f32 := constant S_ .f32 0x00000000#32
  let main_v55 : FVec F S262144 .f32 := (fun x v => Host.reduceAdd x v reducesTo_S262144x64_S262144_d1 h_S_) main_v54 main_cst_9
  let main_v56 : FVec F S262144x1 .f32 := broadcastInDim S262144x1 ![0] bcast_S262144_S262144x1_0 main_v55
  let main_cst_10 : FVec F S_ .f32 := constant S_ .f32 0x322BCC77#32
  let main_v57 : FVec F S262144x1 .f32 := broadcastInDim S262144x1 ![] bcast_S_S262144x1 main_cst_10
  let main_v58 : FVec F S262144x1 .f32 := addf main_v56 main_v57
  fn_part3 (F := F) main_arg1 main_arg2 main_arg3 main_v4 main_v20 main_v25 main_v31 main_v53 main_v58

def fn_part1 {F : FTy → Type} [FloatOps F] (main_arg1 : FVec F S1x64 .f32) (main_arg2 : FVec F S64x64 .f32) (main_arg3 : FVec F S256 .f32) (main_v4 : FVec F S255 .f32) (main_v18 : FVec F S262144x64 .f32) (main_v19 : FVec F S262144x64 .f32) : IVec S1x64 1 × IVec S64x64 1 × IVec S256 1 × IVec S256 1 × IVec S_ 1 × IVec S254 1 × IVec S255 1 × IVec S262144x64x255 1 × IVec S262144x64x255 1 :=
  let main_v20 : FVec F S262144x64 .f32 := mulf main_v18 main_v19
  let main_v21 : FVec F S1 .f32 := (extractStridedSlice S1 ![255] · slices_S256_S1_255) main_arg3
  let main_v22 : FVec F S_ .f32 := shapeCast S_ main_v21 shapeCasts_S1_S_
  let main_v23 : FVec F S262144x64 .f32 := Host.absf main_v20
  let main_cst_3 : FVec F S_ .f32 := constant S_ .f32 0xFF800000#32
  let main_v24 : FVec F S262144 .f32 := (fun x v => Host.reduce FloatOps.maximumf x v reducesTo_S262144x64_S262144_d1 h_S_) main_v23 main_cst_3
  let main_v25 : FVec F S262144x1 .f32 := broadcastInDim S262144x1 ![0] bcast_S262144_S262144x1_0 main_v24
  let main_v26 : FVec F S262144x1 .f32 := broadcastInDim S262144x1 ![] bcast_S_S262144x1 main_v22
  let main_v27 : FVec F S262144x1 .f32 := Host.divf main_v25 main_v26
  let main_cst_4 : FVec F S_ .f32 := constant S_ .f32 0x322BCC77#32
  let main_v28 : FVec F S262144x1 .f32 := broadcastInDim S262144x1 ![] bcast_S_S262144x1 main_cst_4
  let main_v29 : FVec F S262144x1 .f32 := addf main_v27 main_v28
  let main_v30 : FVec F S262144x64 .f32 := broadcastInDim S262144x64 ![0, 1] bcast_S262144x1_S262144x64_0_1 main_v29
  let main_v31 : FVec F S262144x64 .f32 := Host.divf main_v20 main_v30
  let main_v32 : FVec F S255 .f32 := (extractStridedSlice S255 ![0] · slices_S256_S255_0) main_arg3
  let main_v33 : FVec F S255 .f32 := (extractStridedSlice S255 ![1] · slices_S256_S255_1) main_arg3
  let main_v34 : FVec F S255 .f32 := addf main_v32 main_v33
  let main_cst_5 : FVec F S_ .f32 := constant S_ .f32 0x3F000000#32
  let main_v35 : FVec F S255 .f32 := broadcastInDim S255 ![] bcast_S_S255 main_cst_5
  let main_v36 : FVec F S255 .f32 := mulf main_v34 main_v35
  let main_v37 : FVec F S262144x64x1 .f32 := broadcastInDim S262144x64x1 ![0, 1] bcast_S262144x64_S262144x64x1_0_1 main_v31
  let main_v38 : FVec F S1x1x255 .f32 := broadcastInDim S1x1x255 ![2] bcast_S255_S1x1x255_2 main_v36
  let main_v39 : FVec F S262144x64x255 .f32 := broadcastInDim S262144x64x255 ![0, 1, 2] bcast_S1x1x255_S262144x64x255_0_1_2 main_v38
  let main_v40 : FVec F S262144x64x255 .f32 := broadcastInDim S262144x64x255 ![0, 1, 2] bcast_S262144x64x1_S262144x64x255_0_1_2 main_v37
  fn_part2 (F := F) main_arg1 main_arg2 main_arg3 main_v4 main_v20 main_v25 main_v31 main_v39 main_v40

def fn {F : FTy → Type} [FloatOps F] (main_arg0 : FVec F S256x1024x64 .f32) (main_arg1 : FVec F S1x64 .f32) (main_arg2 : FVec F S64x64 .f32) (main_arg3 : FVec F S256 .f32) : IVec S1x64 1 × IVec S64x64 1 × IVec S256 1 × IVec S256 1 × IVec S_ 1 × IVec S254 1 × IVec S255 1 × IVec S262144x64x255 1 × IVec S262144x64x255 1 :=
  let main_v0 : FVec F S255 .f32 := (extractStridedSlice S255 ![0] · slices_S256_S255_0) main_arg3
  let main_v1 : FVec F S255 .f32 := (extractStridedSlice S255 ![1] · slices_S256_S255_1) main_arg3
  let main_v2 : FVec F S255 .f32 := addf main_v0 main_v1
  let main_cst : FVec F S_ .f32 := constant S_ .f32 0x3F000000#32
  let main_v3 : FVec F S255 .f32 := broadcastInDim S255 ![] bcast_S_S255 main_cst
  let main_v4 : FVec F S255 .f32 := mulf main_v2 main_v3
  let main_v5 : FVec F S262144x64 .f32 := shapeCast S262144x64 main_arg0 shapeCasts_S256x1024x64_S262144x64
  let main_v6 : FVec F S262144x64 .f32 := mulf main_v5 main_v5
  let main_cst_0 : FVec F S_ .f32 := constant S_ .f32 0x00000000#32
  let main_v7 : FVec F S262144 .f32 := (fun x v => Host.reduceAdd x v reducesTo_S262144x64_S262144_d1 h_S_) main_v6 main_cst_0
  let main_v8 : FVec F S262144x1 .f32 := broadcastInDim S262144x1 ![0] bcast_S262144_S262144x1_0 main_v7
  let main_v9 : FVec F S262144x1 .f32 := Host.sqrt main_v8
  let main_cst_1 : FVec F S_ .f32 := constant S_ .f32 0x322BCC77#32
  let main_v10 : FVec F S262144x1 .f32 := broadcastInDim S262144x1 ![] bcast_S_S262144x1 main_cst_1
  let main_v11 : FVec F S262144x1 .f32 := addf main_v9 main_v10
  let main_v12 : FVec F S262144x64 .f32 := broadcastInDim S262144x64 ![0, 1] bcast_S262144x1_S262144x64_0_1 main_v11
  let main_v13 : FVec F S262144x64 .f32 := Host.divf main_v5 main_v12
  let main_v14 : FVec F S64 .f32 := shapeCast S64 main_arg1 shapeCasts_S1x64_S64
  let main_v15 : FVec F S1x64 .f32 := broadcastInDim S1x64 ![1] bcast_S64_S1x64_1 main_v14
  let main_v16 : FVec F S262144x64 .f32 := broadcastInDim S262144x64 ![0, 1] bcast_S1x64_S262144x64_0_1 main_v15
  let main_v17 : FVec F S262144x64 .f32 := mulf main_v13 main_v16
  let main_v18 : FVec F S262144x64 .f32 := (fun l r => Host.dotGeneral dot_S262144x64_S64x64_S262144x64_1_0_0_1_n_n none l r) main_v17 main_arg2
  let main_cst_2 : FVec F S_ .f32 := constant S_ .f32 0x3E000000#32
  let main_v19 : FVec F S262144x64 .f32 := broadcastInDim S262144x64 ![] bcast_S_S262144x64 main_cst_2
  fn_part1 (F := F) main_arg1 main_arg2 main_arg3 main_v4 main_v18 main_v19
-- ==== Kernel.lean ====
abbrev S256x1024x64 : Shape := ⟨3, ![256, 1024, 64]⟩
abbrev S1x64 : Shape := ⟨2, ![1, 64]⟩
abbrev S64x64 : Shape := ⟨2, ![64, 64]⟩
abbrev S256 : Shape := ⟨1, ![256]⟩
abbrev S131072x128 : Shape := ⟨2, ![131072, 128]⟩
abbrev S64 : Shape := ⟨1, ![64]⟩
abbrev S64x1 : Shape := ⟨2, ![64, 1]⟩
abbrev S_ : Shape := ⟨0, ![]⟩
abbrev S64x128 : Shape := ⟨2, ![64, 128]⟩
abbrev S128x128 : Shape := ⟨2, ![128, 128]⟩
abbrev S255 : Shape := ⟨1, ![255]⟩
abbrev S1x255 : Shape := ⟨2, ![1, 255]⟩
abbrev S256x1 : Shape := ⟨2, ![256, 1]⟩
abbrev S256x255 : Shape := ⟨2, ![256, 255]⟩
abbrev S1x256 : Shape := ⟨2, ![1, 256]⟩
abbrev S256x256 : Shape := ⟨2, ![256, 256]⟩
abbrev S1 : Shape := ⟨1, ![1]⟩
abbrev S2x128 : Shape := ⟨2, ![2, 128]⟩
abbrev S1x1 : Shape := ⟨2, ![1, 1]⟩
abbrev S4096x128 : Shape := ⟨2, ![4096, 128]⟩
abbrev S1x128 : Shape := ⟨2, ![1, 128]⟩
abbrev S4096x128x1 : Shape := ⟨3, ![4096, 128, 1]⟩

abbrev nBuf : Space → Nat
  | .hbm => 81
  | .vmem => 11
  | .smem => 0
  | _ => 0

abbrev bufTy : (tb : Table) → Fin (tcTables nBuf tb) → BufTy
  | .hbm, ⟨0, _⟩ => ⟨S256x1024x64, .f32⟩
  | .hbm, ⟨1, _⟩ => ⟨S1x64, .f32⟩
  | .hbm, ⟨2, _⟩ => ⟨S64x64, .f32⟩
  | .hbm, ⟨3, _⟩ => ⟨S256, .f32⟩
  | .hbm, ⟨4, _⟩ => ⟨S131072x128, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S1x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x128, .f32⟩
  | .hbm, ⟨21, _⟩ => ⟨S64x128, .f32⟩
  | .hbm, ⟨22, _⟩ => ⟨S128x128, .f32⟩
  | .hbm, ⟨23, _⟩ => ⟨S64x128, .f32⟩
  | .hbm, ⟨24, _⟩ => ⟨S64x128, .f32⟩
  | .hbm, ⟨25, _⟩ => ⟨S128x128, .f32⟩
  | .hbm, ⟨26, _⟩ => ⟨S_, .f32⟩
  | .hbm, ⟨27, _⟩ => ⟨S64x64, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S255, .f32⟩
  | .hbm, ⟨32, _⟩ => ⟨S255, .f32⟩
  | .hbm, ⟨33, _⟩ => ⟨S255, .f32⟩
  | .hbm, ⟨34, _⟩ => ⟨S_, .f32⟩
  | .hbm, ⟨35, _⟩ => ⟨S255, .f32⟩
  | .hbm, ⟨36, _⟩ => ⟨S255, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S1x255, .f32⟩
  | .hbm, ⟨45, _⟩ => ⟨S256x1, .f32⟩
  | .hbm, ⟨46, _⟩ => ⟨S256x255, .f32⟩
  | .hbm, ⟨47, _⟩ => ⟨S256x255, .f32⟩
  | .hbm, ⟨48, _⟩ => ⟨S256x255, .i1⟩
  | .hbm, ⟨49, _⟩ => ⟨S256x255, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S1x256, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S256x256, .f32⟩
  | .hbm, ⟨59, _⟩ => ⟨S1, .f32⟩
  | .hbm, ⟨60, _⟩ => ⟨S256, .f32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S256, .f32⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S255, .f32⟩
  | .hbm, ⟨71, _⟩ => ⟨S1, .f32⟩
  | .hbm, ⟨72, _⟩ => ⟨S256, .f32⟩
  | .hbm, ⟨73, _⟩ => ⟨S256, .f32⟩
  | .hbm, ⟨74, _⟩ => ⟨S2x128, .f32⟩
  | .hbm, ⟨75, _⟩ => ⟨S2x128, .f32⟩
  | .hbm, ⟨76, _⟩ => ⟨S2x128, .f32⟩
  | .hbm, ⟨77, _⟩ => ⟨S1, .f32⟩
  | .hbm, ⟨78, _⟩ => ⟨S_, .f32⟩
  | .hbm, ⟨79, _⟩ => ⟨S1x1, .f32⟩
  | .hbm, ⟨80, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | .local _ .vmem, ⟨8, _⟩ => ⟨S1x1, .f32⟩
  | .local _ .vmem, ⟨9, _⟩ => ⟨S4096x128, .f32⟩
  | .local _ .vmem, ⟨10, _⟩ => ⟨S4096x128, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_cst_0 : Ref sig .tc := ⟨.hbm, 15, rfl⟩
abbrev main_call0_v10 : Ref sig .tc := ⟨.hbm, 16, rfl⟩
abbrev main_call0_v11 : Ref sig .tc := ⟨.hbm, 17, rfl⟩
abbrev main_call0_cst_1 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_cst_2 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_cst_3 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_cst_4 : Ref sig .tc := ⟨.hbm, 38, rfl⟩
abbrev main_call0_v29 : Ref sig .tc := ⟨.hbm, 39, rfl⟩
abbrev main_call0_v30 : Ref sig .tc := ⟨.hbm, 40, rfl⟩
abbrev main_call0_cst_5 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_v36 : Ref sig .tc := ⟨.hbm, 47, rfl⟩
abbrev main_call0_v37 : Ref sig .tc := ⟨.hbm, 48, rfl⟩
abbrev main_call0_v38 : Ref sig .tc := ⟨.hbm, 49, rfl⟩
abbrev main_call0_c : Ref sig .tc := ⟨.hbm, 50, rfl⟩
abbrev main_call0_v39 : Ref sig .tc := ⟨.hbm, 51, rfl⟩
abbrev main_call0_v40 : Ref sig .tc := ⟨.hbm, 52, rfl⟩
abbrev main_call0_v41 : Ref sig .tc := ⟨.hbm, 53, rfl⟩
abbrev main_call0_v42 : Ref sig .tc := ⟨.hbm, 54, rfl⟩
abbrev main_call0_v43 : Ref sig .tc := ⟨.hbm, 55, rfl⟩
abbrev main_call0_v44 : Ref sig .tc := ⟨.hbm, 56, rfl⟩
abbrev main_call0_v45 : Ref sig .tc := ⟨.hbm, 57, rfl⟩
abbrev main_call0_v46 : Ref sig .tc := ⟨.hbm, 58, rfl⟩
abbrev main_call0_v47 : Ref sig .tc := ⟨.hbm, 59, rfl⟩
abbrev main_call0_v48 : Ref sig .tc := ⟨.hbm, 60, rfl⟩
abbrev main_call0_c_6 : Ref sig .tc := ⟨.hbm, 61, rfl⟩
abbrev main_call0_v49 : Ref sig .tc := ⟨.hbm, 62, rfl⟩
abbrev main_call0_v50 : Ref sig .tc := ⟨.hbm, 63, rfl⟩
abbrev main_call0_v51 : Ref sig .tc := ⟨.hbm, 64, rfl⟩
abbrev main_call0_cst_7 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_v52 : Ref sig .tc := ⟨.hbm, 68, rfl⟩
abbrev main_call0_v53 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_v60 : Ref sig .tc := ⟨.hbm, 76, rfl⟩
abbrev main_call0_v61 : Ref sig .tc := ⟨.hbm, 77, rfl⟩
abbrev main_call0_v62 : Ref sig .tc := ⟨.hbm, 78, rfl⟩
abbrev main_call0_v63 : Ref sig .tc := ⟨.hbm, 79, rfl⟩
abbrev main_v0 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x1024x64 : Shape := ⟨3, ![256, 1024, 64]⟩
abbrev S1x64 : Shape := ⟨2, ![1, 64]⟩
abbrev S64x64 : Shape := ⟨2, ![64, 64]⟩
abbrev S256 : Shape := ⟨1, ![256]⟩
abbrev S262144x64 : Shape := ⟨2, ![262144, 64]⟩
abbrev S_ : Shape := ⟨0, ![]⟩
abbrev S262144 : Shape := ⟨1, ![262144]⟩
abbrev S262144x1 : Shape := ⟨2, ![262144, 1]⟩
abbrev S64 : Shape := ⟨1, ![64]⟩
abbrev S1 : Shape := ⟨1, ![1]⟩
abbrev S255 : Shape := ⟨1, ![255]⟩
abbrev S262144x64x1 : Shape := ⟨3, ![262144, 64, 1]⟩
abbrev S1x1x255 : Shape := ⟨3, ![1, 1, 255]⟩
abbrev S262144x64x255 : Shape := ⟨3, ![262144, 64, 255]⟩
abbrev S131072x128 : Shape := ⟨2, ![131072, 128]⟩

abbrev nBuf : Space → Nat
  | .hbm => 129
  | .vmem => 0
  | .smem => 0
  | _ => 0

abbrev hbmTy0_0 (i : Nat) : BufTy := match i % 128 with
  | 0 => ⟨S256x1024x64, .f32⟩
  | 1 => ⟨S1x64, .f32⟩
  | 2 => ⟨S64x64, .f32⟩
  | 3 => ⟨S256, .f32⟩
  | 4 => ⟨S262144x64, .f32⟩
  | 5 => ⟨S262144x64, .f32⟩
  | 6 => ⟨S_, .f32⟩
  | 7 => ⟨S262144, .f32⟩
  | 8 => ⟨S262144x1, .f32⟩
  | 9 => ⟨S262144x1, .f32⟩
  | 10 => ⟨S_, .f32⟩
  | 11 => ⟨S262144x1, .f32⟩
  | 12 => ⟨S262144x1, .f32⟩
  | 13 => ⟨S262144x64, .f32⟩
  | 14 => ⟨S262144x64, .f32⟩
  | 15 => ⟨S64, .f32⟩
  | 16 => ⟨S1x64, .f32⟩
  | 17 => ⟨S262144x64, .f32⟩
  | 18 => ⟨S262144x64, .f32⟩
  | 19 => ⟨S262144x64, .f32⟩
  | 20 => ⟨S_, .f32⟩
  | 21 => ⟨S262144x64, .f32⟩
  | 22 => ⟨S262144x64, .f32⟩
  | 23 => ⟨S1, .f32⟩
  | 24 => ⟨S_, .f32⟩
  | 25 => ⟨S262144x64, .f32⟩
  | 26 => ⟨S_, .f32⟩
  | 27 => ⟨S262144, .f32⟩
  | 28 => ⟨S262144x1, .f32⟩
  | 29 => ⟨S262144x1, .f32⟩
  | 30 => ⟨S262144x1, .f32⟩
  | 31 => ⟨S_, .f32⟩
  | 32 => ⟨S262144x1, .f32⟩
  | 33 => ⟨S262144x1, .f32⟩
  | 34 => ⟨S262144x64, .f32⟩
  | 35 => ⟨S262144x64, .f32⟩
  | 36 => ⟨S255, .f32⟩
  | 37 => ⟨S255, .f32⟩
  | 38 => ⟨S255, .f32⟩
  | 39 => ⟨S_, .f32⟩
  | 40 => ⟨S255, .f32⟩
  | 41 => ⟨S255, .f32⟩
  | 42 => ⟨S262144x64x1, .f32⟩
  | 43 => ⟨S1x1x255, .f32⟩
  | 44 => ⟨S262144x64x255, .f32⟩
  | 45 => ⟨S262144x64x255, .f32⟩
  | 46 => ⟨S262144x64x255, .i1⟩
  | 47 => ⟨S262144x64x255, .i32⟩
  | 48 => ⟨S_, .i32⟩
  | 49 => ⟨S262144x64, .i32⟩
  | 50 => ⟨S_, .i32⟩
  | 51 => ⟨S262144x64, .i32⟩
  | 52 => ⟨S262144x64, .i1⟩
  | 53 => ⟨S_, .i32⟩
  | 54 => ⟨S262144x64, .i32⟩
  | 55 => ⟨S262144x64, .i32⟩
  | 56 => ⟨S262144x64, .i32⟩
  | 57 => ⟨S262144x64x1, .i32⟩
  | 58 => ⟨S262144x64, .f32⟩
  | 59 => ⟨S262144x64, .f32⟩
  | 60 => ⟨S_, .f32⟩
  | 61 => ⟨S262144, .f32⟩
  | 62 => ⟨S262144x1, .f32⟩
  | 63 => ⟨S262144x64, .f32⟩
  | 64 => ⟨S_, .f32⟩
  | 65 => ⟨S262144, .f32⟩
  | 66 => ⟨S262144x1, .f32⟩
  | 67 => ⟨S_, .f32⟩
  | 68 => ⟨S262144x1, .f32⟩
  | 69 => ⟨S262144x1, .f32⟩
  | 70 => ⟨S262144x1, .f32⟩
  | 71 => ⟨S_, .f32⟩
  | 72 => ⟨S262144x1, .f32⟩
  | 73 => ⟨S262144x1, .f32⟩
  | 74 => ⟨S262144x64, .f32⟩
  | 75 => ⟨S262144x64, .f32⟩
  | 76 => ⟨S262144x64, .f32⟩
  | 77 => ⟨S_, .f32⟩
  | 78 => ⟨S262144, .f32⟩
  | 79 => ⟨S262144x1, .f32⟩
  | 80 => ⟨S_, .f32⟩
  | 81 => ⟨S262144x1, .f32⟩
  | 82 => ⟨S262144x1, .f32⟩
  | 83 => ⟨S_, .f32⟩
  | 84 => ⟨S262144x1, .f32⟩
  | 85 => ⟨S262144x1, .f32⟩
  | 86 => ⟨S262144x1, .f32⟩
  | 87 => ⟨S_, .f32⟩
  | 88 => ⟨S262144x1, .f32⟩
  | 89 => ⟨S262144x1, .i1⟩
  | 90 => ⟨S255, .f32⟩
  | 91 => ⟨S255, .f32⟩
  | 92 => ⟨S255, .f32⟩
  | 93 => ⟨S_, .f32⟩
  | 94 => ⟨S255, .f32⟩
  | 95 => ⟨S255, .f32⟩
  | 96 => ⟨S262144x64x1, .f32⟩
  | 97 => ⟨S1x1x255, .f32⟩
  | 98 => ⟨S262144x64x255, .f32⟩
  | 99 => ⟨S262144x64x255, .f32⟩
  | 100 => ⟨S262144x64x255, .i1⟩
  | 101 => ⟨S262144x64x255, .i32⟩
  | 102 => ⟨S_, .i32⟩
  | 103 => ⟨S262144x64, .i32⟩
  | 104 => ⟨S262144x1, .f32⟩
  | 105 => ⟨S262144x64, .i1⟩
  | 106 => ⟨S262144x64, .i32⟩
  | 107 => ⟨S_, .i32⟩
  | 108 => ⟨S262144x64, .i32⟩
  | 109 => ⟨S262144x64, .i1⟩
  | 110 => ⟨S_, .i32⟩
  | 111 => ⟨S262144x64, .i32⟩
  | 112 => ⟨S262144x64, .i32⟩
  | 113 => ⟨S262144x64, .i32⟩
  | 114 => ⟨S262144x64x1, .i32⟩
  | 115 => ⟨S262144x64, .f32⟩
  | 116 => ⟨S262144x64, .f32⟩
  | 117 => ⟨S262144x64, .f32⟩
  | 118 => ⟨S_, .f32⟩
  | 119 => ⟨S262144x64, .f32⟩
  | 120 => ⟨S262144x64, .f32⟩
  | 121 => ⟨S262144x64, .f32⟩
  | 122 => ⟨S64, .f32⟩
  | 123 => ⟨S1x64, .f32⟩
  | 124 => ⟨S262144x64, .f32⟩
  | 125 => ⟨S262144x64, .f32⟩
  | 126 => ⟨S262144x64, .f32⟩
  | 127 => ⟨S262144x64, .f32⟩
  | _ => ⟨S256x1024x64, .f32⟩

abbrev hbmTy0_1 (i : Nat) : BufTy := match i % 128 with
  | 0 => ⟨S131072x128, .f32⟩
  | _ => ⟨S256x1024x64, .f32⟩

abbrev hbmTy (i : Nat) : BufTy := match i / 128 with
  | 0 => hbmTy0_0 i
  | 1 => hbmTy0_1 i
  | _ => ⟨S256x1024x64, .f32⟩

abbrev bufTy : (tb : Table) → Fin (tcTables nBuf tb) → BufTy
  | .hbm, ⟨i, _⟩ => hbmTy i
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_16 : Ref sig .tc := ⟨.hbm, 102, rfl⟩
abbrev main_v80 : Ref sig .tc := ⟨.hbm, 103, rfl⟩
abbrev main_v81 : Ref sig .tc := ⟨.hbm, 104, rfl⟩
abbrev main_call1_v0 : Ref sig .tc := ⟨.hbm, 105, rfl⟩
abbrev main_v82 : Ref sig .tc := ⟨.hbm, 106, rfl⟩
abbrev main_c_17 : Ref sig .tc := ⟨.hbm, 107, rfl⟩
abbrev main_v83 : Ref sig .tc := ⟨.hbm, 108, rfl⟩
abbrev main_v84 : Ref sig .tc := ⟨.hbm, 109, rfl⟩
abbrev main_c_18 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]
-- ==== Proof.Consts.lean ====
/- The float constants of the programs as real numbers. -/
module

public import Idealize.ShloMosaic.Lib.Pointwise

@[expose] public section

noncomputable section

namespace Cert.Quant

open Idealize.ShloMosaic

/-- The small number that is added to a divisor, as a real. -/
def epsR : ℝ := 11258999 / 1125899906842624
theorem epsR_pos : 0 < epsR := by norm_num [epsR]
/-- The value at which the lookup clips. -/
def clipR : ℝ := 10695475 / 2097152
/-- The width of a cell of the table. -/
def stepR : ℝ := 10737418 / 536870912

/-- The divisor's small number. -/
abbrev eps : EReal := Ideal.ofBits .f32 0x322BCC77#32
/-- One eighth. -/
abbrev eighth : EReal := Ideal.ofBits .f32 0x3E000000#32
/-- One half. -/
abbrev half : EReal := Ideal.ofBits .f32 0x3F000000#32
/-- Five: the ratio of maximum to mean above which a row is spiky. -/
abbrev five : EReal := Ideal.ofBits .f32 0x40A00000#32
/-- The length of a row. -/
abbrev rowLen : EReal := Ideal.ofBits .f32 0x42800000#32

theorem eps_eq : eps = (epsR : EReal) := by
  simp [Ideal.ofBits, Ideal.ieee, epsR, -EReal.coe_mul]; norm_num
theorem eighth_eq : eighth = ((1 / 8 : ℝ) : EReal) := by
  simp [Ideal.ofBits, Ideal.ieee, -EReal.coe_mul]; norm_num
theorem half_eq : half = ((1 / 2 : ℝ) : EReal) := by
  simp [Ideal.ofBits, Ideal.ieee, -EReal.coe_mul]; norm_num
theorem rowLen_eq : rowLen = ((64 : ℝ) : EReal) := by
  simp [Ideal.ofBits, Ideal.ieee, -EReal.coe_mul]; norm_num
theorem invLen_eq : Ideal.ofBits .f32 0x3C800000#32 = ((1 / 64 : ℝ) : EReal) := by
  simp [Ideal.ofBits, Ideal.ieee, -EReal.coe_mul]; norm_num
theorem clip_eq : Ideal.ofBits .f32 0x40A33333#32 = (clipR : EReal) := by
  simp [Ideal.ofBits, Ideal.ieee, clipR, -EReal.coe_mul]; norm_num
theorem fifty_eq : Ideal.ofBits .f32 0x42480000#32 = ((50 : ℝ) : EReal) := by
  simp [Ideal.ofBits, Ideal.ieee, -EReal.coe_mul]; norm_num
theorem step_eq : Ideal.ofBits .f32 0x3CA3D70A#32 = (stepR : EReal) := by
  simp [Ideal.ofBits, Ideal.ieee, stepR, -EReal.coe_mul]; norm_num
/-- The least distance of two neighbouring boundaries, as a real. -/
def gapR : ℝ := 10791105 / 536870912
theorem gap_eq : Ideal.ofBits .f32 0x3CA4A8C1#32 = (gapR : EReal) := by
  simp [Ideal.ofBits, Ideal.ieee, gapR, -EReal.coe_mul]; norm_num
/-- The number that stands in the table for a missing boundary, as a real: about `10 ^ 30`. -/
def bigR : ℝ := 13234890 * 2 ^ 76
theorem big_eq : Ideal.ofBits .f32 0x7149F2CA#32 = (bigR : EReal) := by
  simp [Ideal.ofBits, Ideal.ieee, bigR, -EReal.coe_mul]
theorem negInf_eq : Ideal.ofBits .f32 0xFF800000#32 = ⊥ := by
  simp [Ideal.ofBits, Ideal.ieee]
theorem posInf_eq : Ideal.ofBits .f32 0x7F800000#32 = ⊤ := by
  simp [Ideal.ofBits, Ideal.ieee]

end Cert.Quant

end
-- ==== Proof.Levels.lean ====
/- The levels of a quantised value, and the table lookup that finds one without a search. Nothing here is about a program. -/
module

public import proofs.«01_k».proof.Proof.Consts

@[expose] public section

noncomputable section

namespace Cert.Quant

open Idealize.ShloMosaic

/-- The boundary between levels `i` and `i + 1`: half their sum. -/
def bnd (c : Fin 256 → EReal) (i : Fin 255) : EReal := (c i.castSucc + c i.succ) * half

/-- How many boundaries lie below `v`: the number of the level that `v` is quantised to. -/
def idx (c : Fin 256 → EReal) (v : EReal) : Fin 256 :=
  ⟨(Finset.univ.filter fun i : Fin 255 => bnd c i < v).card, by
    have := Finset.card_filter_le (Finset.univ : Finset (Fin 255)) (fun i => bnd c i < v)
    simp at this; omega⟩

/-- The level itself. -/
def lev (c : Fin 256 → EReal) (v : EReal) : EReal := c (idx c v)

/-- What the lookup needs of the levels: they are real, antisymmetric, their boundaries more than a cell apart and below the
    value at which the lookup clips. -/
structure Spaced (c : Fin 256 → EReal) : Prop where
  real : ∃ C : Fin 256 → ℝ, ∀ i, c i = (C i : EReal)
  anti : ∀ i, c i = -c i.rev
  gap : ∀ i j : Fin 255, j.val = i.val + 1 → (gapR : EReal) ≤ bnd c j - bnd c i
  below : ∀ i, bnd c i < (clipR : EReal)

variable {c : Fin 256 → EReal}

/-- The boundaries as reals. -/
theorem Spaced.bndReal (h : Spaced c) : ∃ b : Fin 255 → ℝ, (∀ i, bnd c i = (b i : EReal))
    ∧ (∀ i j : Fin 255, j.val = i.val + 1 → b i + gapR ≤ b j) ∧ (∀ i, b i < clipR) := by
  obtain ⟨C, hC⟩ := h.real
  have hb : ∀ i, bnd c i = (((C i.castSucc + C i.succ) * (1 / 2) : ℝ) : EReal) := fun i => by
    rw [bnd, hC, hC, half_eq, EReal.coe_mul, EReal.coe_add]
  refine ⟨_, hb, fun i j hij => ?_, fun i => ?_⟩
  · have := h.gap i j hij
    rw [hb, hb, ← EReal.coe_sub, EReal.coe_le_coe_iff] at this
    linarith
  · have := h.below i
    rwa [hb, EReal.coe_lt_coe_iff] at this

/-- Boundaries of greater number are greater. -/
theorem Spaced.mono (h : Spaced c) : StrictMono (bnd c) := by
  obtain ⟨b, hb, hg, -⟩ := h.bndReal
  have key : ∀ n : ℕ, ∀ i j : Fin 255, j.val = i.val + n + 1 → b i < b j := by
    intro n
    induction n with
    | zero =>
      intro i j hij
      have := hg i j hij
      have : 0 < gapR := by norm_num [gapR]
      linarith
    | succ n ih =>
      intro i j hij
      have h1 := ih i ⟨i.val + n + 1, by omega⟩ rfl
      have h2 := hg ⟨i.val + n + 1, by omega⟩ j (by simp; omega)
      have : 0 < gapR := by norm_num [gapR]
      linarith
  intro i j hij
  rw [hb, hb, EReal.coe_lt_coe_iff]
  exact key (j.val - i.val - 1) i j (by have : i.val < j.val := hij; omega)

/-- The boundaries below `v` are those of number less than `idx c v`. -/
theorem Spaced.lt_iff (h : Spaced c) (v : EReal) (i : Fin 255) : bnd c i < v ↔ i.val < (idx c v).val := by
  have hm := h.mono
  set S := Finset.univ.filter fun i : Fin 255 => bnd c i < v with hS
  show bnd c i < v ↔ i.val < S.card
  constructor
  · intro hi
    have hsub : Finset.Iic i ⊆ S := fun j hj => by
      simp only [Finset.mem_Iic] at hj
      simp only [hS, Finset.mem_filter, Finset.mem_univ, true_and]
      exact lt_of_le_of_lt (hm.monotone hj) hi
    have := Finset.card_le_card hsub
    rw [Fin.card_Iic] at this
    omega
  · intro hi
    by_contra hn
    have hsub : S ⊆ Finset.Iio i := fun j hj => by
      simp only [hS, Finset.mem_filter, Finset.mem_univ, true_and] at hj
      simp only [Finset.mem_Iio]
      by_contra hij
      exact hn (lt_of_le_of_lt (hm.monotone (not_lt.mp hij)) hj)
    have := Finset.card_le_card hsub
    rw [Fin.card_Iio] at this
    omega

/-- Boundaries are antisymmetric, as the levels are. -/
theorem Spaced.bnd_rev (h : Spaced c) (i : Fin 255) : bnd c i.rev = -bnd c i := by
  obtain ⟨C, hC⟩ := h.real
  have hA : ∀ i, C i = -C i.rev := fun i => by
    have := h.anti i
    rwa [hC, hC, ← EReal.coe_neg, EReal.coe_eq_coe_iff] at this
  have hb : ∀ i, bnd c i = (((C i.castSucc + C i.succ) * (1 / 2) : ℝ) : EReal) := fun i => by
    rw [bnd, hC, hC, half_eq, EReal.coe_mul, EReal.coe_add]
  rw [hb, hb, ← EReal.coe_neg, EReal.coe_eq_coe_iff]
  have e1 := hA i.rev.castSucc
  have e2 := hA i.rev.succ
  have r1 : i.rev.castSucc.rev = i.succ := by ext; simp [Fin.val_rev]; omega
  have r2 : i.rev.succ.rev = i.castSucc := by ext; simp [Fin.val_rev]; omega
  rw [r1] at e1; rw [r2] at e2
  rw [e1, e2]; ring

/-- A value that is no boundary has the negated level of its negation. -/
theorem Spaced.lev_neg (h : Spaced c) {v : EReal} (hv : ∀ i, v ≠ bnd c i) : lev c v = -lev c (-v) := by
  have key : ∀ i : Fin 255, i.val < (idx c v).val ↔ ¬ (i.rev.val < (idx c (-v)).val) := fun i => by
    rw [← h.lt_iff, ← h.lt_iff, h.bnd_rev, EReal.neg_lt_neg_iff, not_lt]
    exact ⟨le_of_lt, fun hl => lt_of_le_of_ne hl (hv i).symm⟩
  have e : (idx c v).rev = idx c (-v) := by
    apply Fin.ext
    rw [Fin.val_rev]
    have h1 := (idx c v).isLt
    have h2 := (idx c (-v)).isLt
    by_contra hne
    rcases Nat.lt_or_ge (idx c v).val 255 with hlt | hge
    · have k1 := key ⟨(idx c v).val, hlt⟩
      simp only [Fin.val_rev] at k1
      rcases Nat.eq_zero_or_pos (idx c v).val with h0 | h0
      · omega
      · have k2 := key ⟨(idx c v).val - 1, by omega⟩
        simp only [Fin.val_rev] at k2
        omega
    · have k2 := key ⟨254, by omega⟩
      simp only [Fin.val_rev] at k2
      omega
  rw [lev, lev, h.anti, e]

/-- Clipping does not change a value's level. -/
theorem Spaced.idx_min (h : Spaced c) (v : EReal) : idx c (min v (clipR : EReal)) = idx c v := by
  apply Fin.ext
  show (Finset.univ.filter fun i : Fin 255 => bnd c i < min v (clipR : EReal)).card
    = (Finset.univ.filter fun i : Fin 255 => bnd c i < v).card
  refine congrArg Finset.card (Finset.filter_congr fun i _ => ?_)
  rw [lt_min_iff]
  exact and_iff_left (h.below i)

/-- The left edge of cell `k` of the table. -/
def edge (k : ℕ) : ℝ := stepR * k

/-- The level at the left edge of cell `k`. -/
def base (c : Fin 256 → EReal) (k : ℕ) : Fin 256 := idx c ((edge k : ℝ) : EReal)

/-- The three tables: the boundary next above a cell's left edge, the level below it, the level above it. -/
def tabNext (c : Fin 256 → EReal) (k : ℕ) : EReal :=
  if h : (base c k).val < 255 then bnd c ⟨(base c k).val, h⟩ else (bigR : EReal)
def tabLo (c : Fin 256 → EReal) (k : ℕ) : EReal := c (base c k)
def tabHi (c : Fin 256 → EReal) (k : ℕ) : EReal := c ⟨min ((base c k).val + 1) 255, by omega⟩

/-- The cell of a clipped magnitude. -/
def cell (u : ℝ) : ℕ := ⌊u * 50⌋₊

/-- The lookup: the level of a magnitude from the tables at its cell. -/
theorem Spaced.lookup (h : Spaced c) {u : ℝ} (hu0 : 0 ≤ u) (hu : u ≤ clipR) :
    (if tabNext c (cell u) < (u : EReal) then tabHi c (cell u) else tabLo c (cell u)) = lev c (u : EReal) := by
  obtain ⟨b, hb, hg, hlt⟩ := h.bndReal
  have hk1 : (cell u : ℝ) ≤ u * 50 := Nat.floor_le (by positivity)
  have hk2 : u * 50 < (cell u : ℝ) + 1 := Nat.lt_floor_add_one _
  have hk3 : (cell u : ℝ) ≤ 255 := by
    have : clipR * 50 ≤ 255 := by norm_num [clipR]
    linarith
  have he1 : edge (cell u) ≤ u := by
    have : edge (cell u) ≤ (cell u : ℝ) / 50 := by
      unfold edge stepR
      have : (0 : ℝ) ≤ cell u := Nat.cast_nonneg _
      linarith
    linarith
  have he2 : u < edge (cell u) + gapR := by
    have : (cell u : ℝ) / 50 ≤ edge (cell u) + 1 / 100000 := by
      unfold edge stepR; linarith
    have : (1 / 50 + 1 / 100000 : ℝ) < gapR := by norm_num [gapR]
    linarith
  have hle : (base c (cell u)).val ≤ (idx c (u : EReal)).val := by
    show (Finset.univ.filter fun i : Fin 255 => bnd c i < ((edge (cell u) : ℝ) : EReal)).card
      ≤ (Finset.univ.filter fun i : Fin 255 => bnd c i < (u : EReal)).card
    apply Finset.card_le_card
    intro i
    simp only [Finset.mem_filter, Finset.mem_univ, true_and]
    exact fun hi => lt_of_lt_of_le hi (EReal.coe_le_coe_iff.mpr he1)
  set B := base c (cell u) with hB
  have hub : (idx c (u : EReal)).val ≤ B.val + 1 := by
    by_contra hn
    have hI := (idx c (u : EReal)).isLt
    have h1 := (h.lt_iff (u : EReal) ⟨B.val + 1, by omega⟩).mpr (by simp; omega)
    have h2 : ¬ (bnd c ⟨B.val, by omega⟩ < ((edge (cell u) : ℝ) : EReal)) := by
      rw [h.lt_iff]; exact lt_irrefl _
    rw [hb, EReal.coe_lt_coe_iff] at h1 h2
    have h3 := hg ⟨B.val, by omega⟩ ⟨B.val + 1, by omega⟩ rfl
    linarith
  show (if (if h : B.val < 255 then bnd c ⟨B.val, h⟩ else (bigR : EReal)) < (u : EReal)
    then c ⟨min (B.val + 1) 255, by omega⟩ else c B) = c (idx c (u : EReal))
  by_cases h255 : B.val < 255
  · rw [dif_pos h255]
    have hi := h.lt_iff (u : EReal) ⟨B.val, h255⟩
    by_cases hc : bnd c ⟨B.val, h255⟩ < (u : EReal)
    · rw [if_pos hc]
      have := hi.mp hc
      refine congrArg c (Fin.ext ?_)
      show min (B.val + 1) 255 = (idx c (u : EReal)).val
      simp only at this
      omega
    · rw [if_neg hc]
      have : ¬ (B.val < (idx c (u : EReal)).val) := fun hh => hc (hi.mpr hh)
      exact congrArg c (Fin.ext (by omega))
  · rw [dif_neg h255, if_neg]
    · exact congrArg c (Fin.ext (by have := (idx c (u : EReal)).isLt; omega))
    · rw [EReal.coe_lt_coe_iff, not_lt]
      have : clipR ≤ bigR := by norm_num [clipR, bigR]
      linarith

/-- A magnitude, clipped. -/
theorem clipped (v : EReal) : ∃ u : ℝ, 0 ≤ u ∧ u ≤ clipR ∧ min (max v (-v)) (clipR : EReal) = (u : EReal) := by
  have h0 : (0 : EReal) ≤ max v (-v) := by
    rcases le_total 0 v with h | h
    · exact le_max_of_le_left h
    · exact le_max_of_le_right (by simpa using EReal.neg_le_neg_iff.mpr h)
  have hc : (0 : EReal) ≤ (clipR : EReal) := by
    rw [← EReal.coe_zero, EReal.coe_le_coe_iff]; norm_num [clipR]
  have h1 : (0 : EReal) ≤ min (max v (-v)) (clipR : EReal) := le_min h0 hc
  have h2 : min (max v (-v)) (clipR : EReal) ≤ (clipR : EReal) := min_le_right _ _
  generalize min (max v (-v)) (clipR : EReal) = w at h1 h2
  induction w with
  | bot => simp at h1
  | top => simp at h2
  | coe u => exact ⟨u, by exact_mod_cast h1, by exact_mod_cast h2, rfl⟩

/-- The whole lookup, as the kernel does it: at a magnitude `u`, negated where the value is negative. -/
theorem Spaced.lookup_eq (h : Spaced c) {v : EReal} (hv : 0 ≤ v ∨ ∀ i, v ≠ bnd c i) {u : ℝ} (hu0 : 0 ≤ u) (hu : u ≤ clipR)
    (huv : min (max v (-v)) (clipR : EReal) = (u : EReal)) :
    (if v < 0 then 0 - (if tabNext c (cell u) < (u : EReal) then tabHi c (cell u) else tabLo c (cell u))
      else if tabNext c (cell u) < (u : EReal) then tabHi c (cell u) else tabLo c (cell u)) = lev c v := by
  rw [h.lookup hu0 hu, ← huv]
  have e : lev c (min (max v (-v)) (clipR : EReal)) = lev c (max v (-v)) := by unfold lev; rw [h.idx_min]
  rw [e]
  by_cases hn : v < 0
  · have hneg : 0 < -v := EReal.neg_pos.mpr hn
    rw [if_pos hn, max_eq_right (hn.le.trans hneg.le), zero_sub]
    exact (h.lev_neg (hv.resolve_left (not_le.mpr hn))).symm
  · rw [if_neg hn, max_eq_left]
    exact (EReal.neg_le_zero.mpr (not_lt.mp hn)).trans (not_lt.mp hn)

end Cert.Quant

end
-- ==== Proof.Row.lean ====
/- One row of 64: what the reference computes of it, and that the kernel's arrangement of the same sums agrees. Nothing here is about a program. -/
module

public import proofs.«01_k».proof.Proof.Levels

@[expose] public section

noncomputable section

namespace Cert.Quant

open Idealize.ShloMosaic

/-! ## What the reference computes of a row -/

section
variable (X s : Fin 64 → EReal) (H : Fin 64 → Fin 64 → EReal) (c : Fin 256 → EReal) (y : Fin 64 → EReal)

/-- The norm of the row, kept away from zero. -/
def norm : EReal := Ideal.sqrt (∑ k, X k * X k) + eps
/-- The row divided by its norm, signed, and rotated. -/
def rot (l : Fin 64) : EReal := (∑ k, Ideal.div (X k) (norm X) * s k * H k l) * eighth
/-- The greatest magnitude of a rotated row `y`. -/
def top : EReal := Finset.univ.fold max ⊥ fun l => max (y l) (-y l)
/-- The scale of the first pass. -/
def rms : EReal := Ideal.div (top y) (c 255)
/-- The values that the first pass quantises. -/
def val1 (l : Fin 64) : EReal := Ideal.div (y l) (rms c y + eps)
/-- Their levels. -/
def rec1 (l : Fin 64) : EReal := lev c (val1 c y l)
/-- The scale of the second pass: the least-squares fit of the first pass's levels. -/
def gamma1 : EReal := Ideal.div (∑ l, y l * rec1 c y l) ((∑ l, rec1 c y l * rec1 c y l) + eps)
/-- The values that the second pass quantises. -/
def val2 (l : Fin 64) : EReal := Ideal.div (y l) (gamma1 c y + eps)
/-- The mean magnitude, kept away from zero. -/
def mean : EReal := Ideal.div (∑ l, max (y l) (-y l)) rowLen + eps
/-- A row is spiky when its greatest magnitude is more than five times the mean. -/
def spiky : Prop := five < Ideal.div (top y) (mean y)
open Classical in
/-- The scale that is kept: a spiky row keeps the first. -/
def gam : EReal := if spiky y then rms c y else gamma1 c y
open Classical in
/-- The levels that are kept. -/
def rec2 (l : Fin 64) : EReal := lev c (if spiky y then val1 c y l else val2 c y l)
/-- The row rotated back, signed, and multiplied by its norm. -/
def out (l : Fin 64) : EReal :=
  (∑ k, rec2 c (rot X s H) k * gam c (rot X s H) * eighth * H k l) * s l * norm X
end

/-! ## Real values -/

/-- A value that is a real number. -/
def IsReal (a : EReal) : Prop := ∃ r : ℝ, a = (r : EReal)

theorem IsReal.mul {a b : EReal} : IsReal a → IsReal b → IsReal (a * b)
  | ⟨r, hr⟩, ⟨t, ht⟩ => ⟨r * t, by rw [hr, ht, EReal.coe_mul]⟩
theorem IsReal.add {a b : EReal} : IsReal a → IsReal b → IsReal (a + b)
  | ⟨r, hr⟩, ⟨t, ht⟩ => ⟨r + t, by rw [hr, ht, EReal.coe_add]⟩

theorem coe_sum {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

theorem IsReal.sum {ι : Type} [Fintype ι] {f : ι → EReal} (h : ∀ k, IsReal (f k)) : IsReal (∑ k, f k) := by
  choose g hg using h
  exact ⟨∑ k, g k, by rw [Finset.sum_congr rfl fun k _ => hg k, coe_sum]⟩

/-- A quotient of reals by a real that is not zero. -/
theorem IsReal.div {a b : EReal} (ha : IsReal a) (hb : IsReal b) (h0 : b ≠ 0) : IsReal (Ideal.div a b) := by
  obtain ⟨r, rfl⟩ := ha
  obtain ⟨t, rfl⟩ := hb
  refine ⟨r * t⁻¹, ?_⟩
  rw [Ideal.div, if_neg h0, ← EReal.coe_inv, EReal.coe_mul]

theorem isReal_eps : IsReal eps := ⟨_, eps_eq⟩

/-- A sum of squares of reals is a real that is not negative. -/
theorem sumSq {f : Fin 64 → EReal} (h : ∀ k, IsReal (f k)) : ∃ r : ℝ, 0 ≤ r ∧ ∑ k, f k * f k = (r : EReal) := by
  choose g hg using h
  refine ⟨∑ k, g k * g k, Finset.sum_nonneg fun k _ => mul_self_nonneg _, ?_⟩
  rw [← coe_sum]
  exact Finset.sum_congr rfl fun k _ => by rw [hg, EReal.coe_mul]

/-- Adding the small number to a real that is not negative leaves a real that is not zero. -/
theorem add_eps {r : ℝ} (h : 0 ≤ r) : IsReal ((r : EReal) + eps) ∧ (r : EReal) + eps ≠ 0 := by
  rw [eps_eq, ← EReal.coe_add]
  refine ⟨⟨_, rfl⟩, fun h0 => ?_⟩
  have := epsR_pos
  have : r + epsR = 0 := by exact_mod_cast h0
  linarith

/-- A row divided by its norm is real, whatever the row: where an entry is infinite the norm is, and the quotient is zero. -/
theorem isReal_unit (X : Fin 64 → EReal) (k : Fin 64) : IsReal (Ideal.div (X k) (norm X)) := by
  by_cases h : ∀ k, IsReal (X k)
  · obtain ⟨r, hr, e⟩ := sumSq h
    have hn : norm X = ((Real.sqrt r : ℝ) : EReal) + eps := by
      rw [norm, e]
      show (if r < 0 then ⊥ else ((Real.sqrt r : ℝ) : EReal)) + eps = _
      rw [if_neg (not_lt.mpr hr)]
    rw [hn]
    exact (h k).div (add_eps (Real.sqrt_nonneg r)).1 (add_eps (Real.sqrt_nonneg r)).2
  · obtain ⟨j, hj⟩ := not_forall.mp h
    have hsq : X j * X j = ⊤ := by
      generalize X j = a at hj
      induction a with
      | bot => rfl
      | top => rfl
      | coe r => exact absurd ⟨r, rfl⟩ hj
    have hnn : ∀ k, 0 ≤ X k * X k := fun k => by
      rcases le_total 0 (X k) with h0 | h0
      · exact EReal.mul_nonneg h0 h0
      · rw [← neg_mul_neg]
        have : 0 ≤ -X k := EReal.neg_nonneg.mpr h0
        exact EReal.mul_nonneg this this
    have hsum : ∑ k, X k * X k = ⊤ := by
      refine top_le_iff.mp ?_
      rw [← hsq]
      exact Finset.single_le_sum (f := fun k => X k * X k) (fun k _ => hnn k) (Finset.mem_univ j)
    have hn : norm X = ⊤ := by
      rw [norm, hsum, eps_eq]
      show (⊤ : EReal) + _ = ⊤
      exact EReal.top_add_coe _
    refine ⟨0, ?_⟩
    rw [hn, Ideal.div, if_neg EReal.top_ne_zero, EReal.inv_top, mul_zero, EReal.coe_zero]

variable {X s : Fin 64 → EReal} {H : Fin 64 → Fin 64 → EReal} {c : Fin 256 → EReal} {y : Fin 64 → EReal}

theorem isReal_rot (hs : ∀ k, IsReal (s k)) (hH : ∀ k l, IsReal (H k l)) (l : Fin 64) : IsReal (rot X s H l) :=
  (IsReal.sum fun k => ((isReal_unit X k).mul (hs k)).mul (hH k l)).mul ⟨_, eighth_eq⟩

theorem isReal_top (hy : ∀ l, IsReal (y l)) : IsReal (top y) := by
  have h1 : top y < ⊤ := by
    rw [top, Finset.fold_max_lt]
    refine ⟨bot_lt_top, fun l _ => ?_⟩
    obtain ⟨r, hr⟩ := hy l
    rw [hr, ← EReal.coe_neg]
    exact max_lt (EReal.coe_lt_top _) (EReal.coe_lt_top _)
  have h2 : ⊥ < top y := by
    rw [top, Finset.lt_fold_max]
    obtain ⟨r, hr⟩ := hy 0
    exact .inr ⟨0, Finset.mem_univ _, lt_max_of_lt_left (by rw [hr]; exact EReal.bot_lt_coe _)⟩
  exact ⟨(top y).toReal, (EReal.coe_toReal h1.ne h2.ne').symm⟩

theorem isReal_gam (hc : ∀ i, IsReal (c i)) (h0 : 0 < c 255) (hy : ∀ l, IsReal (y l)) : IsReal (gam c y) := by
  unfold gam
  split
  · exact (isReal_top hy).div (hc _) h0.ne'
  · obtain ⟨r, hr, e⟩ := sumSq (f := rec1 c y) fun l => hc _
    rw [gamma1, e]
    exact (IsReal.sum fun l => (hy l).mul (hc _)).div (add_eps hr).1 (add_eps hr).2

/-! ## The kernel's arrangement of the sums -/

/-- A constant factor inside a sum of reals, and outside. -/
theorem sum_mul_coe {f g : Fin 64 → EReal} {a : EReal} (hf : ∀ k, IsReal (f k)) (ha : IsReal a) (e : ∀ k, g k = f k * a) :
    ∑ k, g k = (∑ k, f k) * a := by
  choose f' hf' using hf
  obtain ⟨a', rfl⟩ := ha
  rw [Finset.sum_congr rfl fun k _ => (e k).trans (congrArg (· * _) (hf' k)), Finset.sum_congr rfl fun k _ => hf' k, coe_sum,
    ← EReal.coe_mul, Finset.sum_mul, ← coe_sum]
  exact Finset.sum_congr rfl fun k _ => (EReal.coe_mul _ _).symm

/-- The rotation with signs and scale folded into the matrix. -/
theorem rot_folded (hs : ∀ k, IsReal (s k)) (hH : ∀ k l, IsReal (H k l)) (l : Fin 64) :
    ∑ k, Ideal.div (X k) (norm X) * (s k * H k l * eighth) = rot X s H l :=
  sum_mul_coe (fun k => ((isReal_unit X k).mul (hs k)).mul (hH k l)) ⟨_, eighth_eq⟩ fun k => by
    simp only [mul_assoc]

/-- The rotation back with signs and scale folded into the matrix. -/
theorem out_folded (hs : ∀ k, IsReal (s k)) (hH : ∀ k l, IsReal (H k l)) (hc : ∀ i, IsReal (c i)) (h0 : 0 < c 255)
    (l : Fin 64) :
    (∑ k, rec2 c (rot X s H) k * gam c (rot X s H) * (H k l * s l * eighth)) * norm X = out X s H c l := by
  unfold out
  refine congrArg (· * norm X) (sum_mul_coe (fun k => ?_) (hs l) fun k => ?_)
  · exact (((hc _).mul (isReal_gam hc h0 (isReal_rot hs hH))).mul ⟨_, eighth_eq⟩).mul (hH k l)
  · rw [mul_comm _ eighth, ← mul_assoc, ← mul_assoc]

/-- The mean by multiplication. -/
theorem mean_mul (y : Fin 64 → EReal) :
    (∑ l, max (y l) (-y l)) * Ideal.ofBits .f32 0x3C800000#32 + eps = mean y := by
  rw [mean, invLen_eq, rowLen_eq, Ideal.div, if_neg (by exact_mod_cast (by norm_num : (64 : ℝ) ≠ 0)), ← EReal.coe_inv,
    one_div]

/-- What the lookup needs of a rotated row: no negative value that a pass quantises is a boundary. -/
structure Regular (c : Fin 256 → EReal) (y : Fin 64 → EReal) : Prop where
  first : ∀ l, 0 ≤ val1 c y l ∨ ∀ i, val1 c y l ≠ bnd c i
  second : ∀ l, spiky y ∨ 0 ≤ val2 c y l ∨ ∀ i, val2 c y l ≠ bnd c i

end Cert.Quant

end
-- ==== Proof.SegMax.lean ====
/- The maximum of 64 numbers by six cyclic shifts. Nothing here is about a program. -/
module

public import proofs.«01_k».proof.Proof.Consts

@[expose] public section

noncomputable section

namespace Cert.Quant

open Idealize.ShloMosaic

/-- `m l` is the greatest of the `n` numbers that end at place `l` of the cycle `a`. -/
def MaxOf (a m : Fin 64 → EReal) (n : ℕ) : Prop := ∀ l z, m l ≤ z ↔ ∀ t < n, a (l - Fin.ofNat 64 t) ≤ z

theorem sub_sub_ofNat (l : Fin 64) (p q : ℕ) : l - Fin.ofNat 64 p - Fin.ofNat 64 q = l - Fin.ofNat 64 (p + q) := by
  apply Fin.ext
  simp only [Fin.sub_def, Fin.val_ofNat]
  omega

theorem MaxOf.one (a : Fin 64 → EReal) : MaxOf a a 1 := fun l z =>
  ⟨fun h t ht => by obtain rfl : t = 0 := by omega
                    simpa using h, fun h => by simpa using h 0 one_pos⟩

/-- One step: the greater of the number at `l` and the number `n` places before doubles the length. -/
theorem MaxOf.double {a m m' : Fin 64 → EReal} {n : ℕ} (h : MaxOf a m n) (hm : ∀ l, m' l = max (m l) (m (l - Fin.ofNat 64 n))) :
    MaxOf a m' (n + n) := fun l z => by
  rw [hm, max_le_iff, h, h]
  constructor
  · rintro ⟨h1, h2⟩ t ht
    rcases Nat.lt_or_ge t n with hlt | hge
    · exact h1 t hlt
    · have := h2 (t - n) (by omega)
      rwa [sub_sub_ofNat, Nat.add_sub_cancel' hge] at this
  · intro hh
    refine ⟨fun t ht => hh t (by omega), fun t ht => ?_⟩
    rw [sub_sub_ofNat]
    exact hh (n + t) (by omega)

/-- The greatest of the whole cycle is the same at every place. -/
theorem MaxOf.whole {a m : Fin 64 → EReal} (h : MaxOf a m 64) (l : Fin 64) : m l = Finset.univ.fold max ⊥ a := by
  refine eq_of_forall_ge_iff fun z => ?_
  rw [h, Finset.fold_max_le]
  constructor
  · refine fun hh => ⟨bot_le, fun k _ => ?_⟩
    have := hh (l - k).val (l - k).isLt
    have e : l - Fin.ofNat 64 (l - k).val = k := by
      apply Fin.ext
      simp only [Fin.sub_def, Fin.val_ofNat]
      omega
    rwa [e] at this
  · exact fun hh t _ => hh.2 _ (Finset.mem_univ _)

/-- Six steps, by 1, 2, 4, 8, 16 and 32 places. -/
theorem cyclicMax {a m1 m2 m3 m4 m5 m6 : Fin 64 → EReal}
    (h1 : ∀ l, m1 l = max (a l) (a (l - 1))) (h2 : ∀ l, m2 l = max (m1 l) (m1 (l - 2)))
    (h3 : ∀ l, m3 l = max (m2 l) (m2 (l - 4))) (h4 : ∀ l, m4 l = max (m3 l) (m3 (l - 8)))
    (h5 : ∀ l, m5 l = max (m4 l) (m4 (l - 16))) (h6 : ∀ l, m6 l = max (m5 l) (m5 (l - 32))) (l : Fin 64) :
    m6 l = Finset.univ.fold max ⊥ a :=
  MaxOf.whole (.double (n := 32) (.double (n := 16) (.double (n := 8) (.double (n := 4) (.double (n := 2)
    (.double (n := 1) (.one a) h1) h2) h3) h4) h5) h6) l

end Cert.Quant

end
-- ==== Proof.KernelBlock.lean ====
/- What one point of the kernel computes of its block, at an index. -/
module

public import proofs.«01_k».proof.Proof.Gen.KernelIdeal.Value
public import proofs.«01_k».proof.Proof.Row
public import proofs.«01_k».proof.Proof.SegMax

@[expose] public section

set_option maxRecDepth 16384

noncomputable section

namespace Cert.Quant

open Idealize.ShloMosaic Cert.KernelIdeal Cert.KernelIdeal.Gen

/-! ## Lanes: two rows of 64 side by side -/

/-- Place `l` of half `h`. -/
def lane (h : Fin 2) (l : Fin 64) : Fin 128 := ⟨h.val * 64 + l.val, by omega⟩

/-- A sum over the lanes against a column of a matrix of two diagonal blocks: the sum over the column's half. -/
theorem block_sum {f : Fin 128 → EReal} {M : Fin 128 → Fin 128 → EReal} {g : Fin 64 → Fin 64 → EReal}
    (hM : ∀ h k h' l, M (lane h k) (lane h' l) = if h = h' then g k l else 0) (h : Fin 2) (l : Fin 64) :
    ∑ k, f k * M k (lane h l) = ∑ k, f (lane h k) * g k l := by
  rw [Fin.sum_univ_two_halves 64 64 rfl]
  have e0 : ∀ k : Fin 64, (⟨k.val, by omega⟩ : Fin 128) = lane 0 k := fun k => by apply Fin.ext; simp [lane]
  have e1 : ∀ k : Fin 64, (⟨64 + k.val, by omega⟩ : Fin 128) = lane 1 k := fun k => by apply Fin.ext; simp [lane]
  simp only [e0, e1, hM]
  fin_cases h <;> simp

/-! ## The maximum of a half -/

/-- One shift: the greater of a lane and the lane `d` places before it in the same half. -/
def shiftMax (d e : BitVec 32) (m : FVec Ideal S4096x128 .f32) : FVec Ideal S4096x128 .f32 :=
  maximumf m (select (broadcastTo S4096x128 (shapeCast S1x128 (cmpi .slt k0_pay9 (broadcast S1x128 d))
    shapeCasts_S1x128_S1x128) broadcasts_S1x128_S4096x128)
    (dynamicRotate 1 e none m rotates_S4096x128_d1) (dynamicRotate 1 d none m rotates_S4096x128_d1))

/-- A selection between two lanes of a row is the row at the selected lane. -/
theorem select_lane (m : FVec Ideal S4096x128 .f32) (r : Fin 4096) (b : BitVec 1) (p q t : Fin 128)
    (h : (if b = 1 then p.val else q.val) = t.val) : Scalar.select b (m (ix2 r p)) (m (ix2 r q)) = m (ix2 r t) := by
  by_cases hb : b = 1
  · rw [if_pos hb] at h
    rw [Scalar.select, if_pos hb, Fin.ext h]
  · rw [if_neg hb] at h
    rw [Scalar.select, if_neg hb, Fin.ext h]

variable (m : FVec Ideal S4096x128 .f32) (r : Fin 4096) (h : Fin 2) (l : Fin 64)

theorem shiftMax_1 :
    shiftMax 1#32 65#32 m (ix2 r (lane h l)) = max (m (ix2 r (lane h l))) (m (ix2 r (lane h (l - 1)))) := by
  pointwise [shiftMax, k0_pay9]
  exact congrArg _ (select_lane m r _ _ _ (lane h (l - 1)) ((by decide +kernel : ∀ (h : Fin 2) (l : Fin 64),
    (if IntOp.cmpi .slt (IntOp.andi (BitVec.ofNat 32 (lane h l).val) 63#32) 1#32 = 1
      then ((lane h l).val + 128 - 65) % 128 else ((lane h l).val + 128 - 1) % 128) = (lane h (l - 1)).val) h l))
theorem shiftMax_2 :
    shiftMax 2#32 66#32 m (ix2 r (lane h l)) = max (m (ix2 r (lane h l))) (m (ix2 r (lane h (l - 2)))) := by
  pointwise [shiftMax, k0_pay9]
  exact congrArg _ (select_lane m r _ _ _ (lane h (l - 2)) ((by decide +kernel : ∀ (h : Fin 2) (l : Fin 64),
    (if IntOp.cmpi .slt (IntOp.andi (BitVec.ofNat 32 (lane h l).val) 63#32) 2#32 = 1
      then ((lane h l).val + 128 - 66) % 128 else ((lane h l).val + 128 - 2) % 128) = (lane h (l - 2)).val) h l))
theorem shiftMax_4 :
    shiftMax 4#32 68#32 m (ix2 r (lane h l)) = max (m (ix2 r (lane h l))) (m (ix2 r (lane h (l - 4)))) := by
  pointwise [shiftMax, k0_pay9]
  exact congrArg _ (select_lane m r _ _ _ (lane h (l - 4)) ((by decide +kernel : ∀ (h : Fin 2) (l : Fin 64),
    (if IntOp.cmpi .slt (IntOp.andi (BitVec.ofNat 32 (lane h l).val) 63#32) 4#32 = 1
      then ((lane h l).val + 128 - 68) % 128 else ((lane h l).val + 128 - 4) % 128) = (lane h (l - 4)).val) h l))
theorem shiftMax_8 :
    shiftMax 8#32 72#32 m (ix2 r (lane h l)) = max (m (ix2 r (lane h l))) (m (ix2 r (lane h (l - 8)))) := by
  pointwise [shiftMax, k0_pay9]
  exact congrArg _ (select_lane m r _ _ _ (lane h (l - 8)) ((by decide +kernel : ∀ (h : Fin 2) (l : Fin 64),
    (if IntOp.cmpi .slt (IntOp.andi (BitVec.ofNat 32 (lane h l).val) 63#32) 8#32 = 1
      then ((lane h l).val + 128 - 72) % 128 else ((lane h l).val + 128 - 8) % 128) = (lane h (l - 8)).val) h l))
theorem shiftMax_16 :
    shiftMax 16#32 80#32 m (ix2 r (lane h l)) = max (m (ix2 r (lane h l))) (m (ix2 r (lane h (l - 16)))) := by
  pointwise [shiftMax, k0_pay9]
  exact congrArg _ (select_lane m r _ _ _ (lane h (l - 16)) ((by decide +kernel : ∀ (h : Fin 2) (l : Fin 64),
    (if IntOp.cmpi .slt (IntOp.andi (BitVec.ofNat 32 (lane h l).val) 63#32) 16#32 = 1
      then ((lane h l).val + 128 - 80) % 128 else ((lane h l).val + 128 - 16) % 128) = (lane h (l - 16)).val) h l))
theorem shiftMax_32 :
    shiftMax 32#32 96#32 m (ix2 r (lane h l)) = max (m (ix2 r (lane h l))) (m (ix2 r (lane h (l - 32)))) := by
  pointwise [shiftMax, k0_pay9]
  exact congrArg _ (select_lane m r _ _ _ (lane h (l - 32)) ((by decide +kernel : ∀ (h : Fin 2) (l : Fin 64),
    (if IntOp.cmpi .slt (IntOp.andi (BitVec.ofNat 32 (lane h l).val) 63#32) 32#32 = 1
      then ((lane h l).val + 128 - 96) % 128 else ((lane h l).val + 128 - 32) % 128) = (lane h (l - 32)).val) h l))

/-- The six shifts: every lane holds the greatest of its half. -/
theorem shifts_apply : shiftMax 32#32 96#32 (shiftMax 16#32 80#32 (shiftMax 8#32 72#32 (shiftMax 4#32 68#32
      (shiftMax 2#32 66#32 (shiftMax 1#32 65#32 m))))) (ix2 r (lane h l))
    = Finset.univ.fold max ⊥ fun l => m (ix2 r (lane h l)) :=
  cyclicMax (a := fun l => m (ix2 r (lane h l))) (m6 := fun l => shiftMax 32#32 96#32 _ (ix2 r (lane h l)))
    (shiftMax_1 _ r h) (shiftMax_2 _ r h) (shiftMax_4 _ r h) (shiftMax_8 _ r h) (shiftMax_16 _ r h) (shiftMax_32 _ r h) l

/-! ## The table lookup -/

/-- The lane at which a cell's number is looked up: the number modulo 128. -/
def pos (k : BitVec 32) : Fin 128 :=
  ⟨(Scalar.select (IntOp.cmpi .slt (IntOp.andi k 127#32) 0#32) (IntOp.addi (IntOp.andi k 127#32) 128#32)
    (IntOp.andi k 127#32)).toNat % 128, Nat.mod_lt _ (by norm_num)⟩

/-- A table of 256 entries in two rows of 128, at a cell's number. -/
def pick (T : Vec Ideal S2x128 .f32) (k : BitVec 32) : EReal :=
  Scalar.select (IntOp.cmpi .slt k 128#32) (T (ix2 0 (pos k))) (T (ix2 1 (pos k)))

/-- A table in two rows of 128. -/
def Holds (T : Vec Ideal S2x128 .f32) (f : ℕ → EReal) : Prop := ∀ (a : Fin 2) (j : Fin 128), T (ix2 a j) = f (a.val * 128 + j.val)

theorem Holds.pick {T : Vec Ideal S2x128 .f32} {f : ℕ → EReal} (hT : Holds T f) {n : ℕ} (hn : n < 256) :
    pick T (BitVec.ofNat 32 n) = f n := by
  have key : ∀ n : Fin 256, IntOp.cmpi .slt (BitVec.ofNat 32 n.val) 128#32 = (if n.val < 128 then 1#1 else 0#1)
      ∧ (pos (BitVec.ofNat 32 n.val)).val = n.val % 128 := by decide +kernel
  obtain ⟨k1, k2⟩ := key ⟨n, hn⟩
  simp only at k1 k2
  rw [Quant.pick, k1, hT, hT, k2]
  by_cases h : n < 128
  · rw [if_pos h, Scalar.select]
    exact congrArg f (by simp only [Fin.val_zero]; omega)
  · rw [if_neg h, Scalar.select]
    exact congrArg f (by simp only [Fin.val_one]; omega)

/-- The lookup of a value from the three tables, as the kernel does it. -/
def look (x4 x5 x6 : Vec Ideal S2x128 .f32) (v : EReal) : EReal :=
  let u : EReal := min (max v (-v)) (Ideal.ofBits .f32 0x40A33333#32)
  let k : BitVec 32 := Ideal.fptosi 32 (u * Ideal.ofBits .f32 0x42480000#32)
  if v < 0 then 0 - (if pick x4 k < u then pick x6 k else pick x5 k) else if pick x4 k < u then pick x6 k else pick x5 k

/-- The number of a clipped magnitude's cell. -/
theorem fptosi_cell {u : ℝ} (hu0 : 0 ≤ u) (hu : u ≤ clipR) :
    Ideal.fptosi 32 ((u : EReal) * Ideal.ofBits .f32 0x42480000#32) = BitVec.ofNat 32 (cell u) ∧ cell u < 256 := by
  have h1 : cell u < 256 := by
    refine (Nat.floor_lt (by positivity)).mpr ?_
    have : clipR * 50 < 256 := by norm_num [clipR]
    push_cast
    linarith
  refine ⟨?_, h1⟩
  have hnn : (0 : ℝ) ≤ u * 50 := by positivity
  rw [fifty_eq, ← EReal.coe_mul, Ideal.fptosi, Ideal.toIntClamped_coe, if_pos hnn]
  have e : ⌊u * 50⌋ = ((cell u : ℕ) : ℤ) := (Int.natCast_floor_eq_floor hnn).symm
  rw [e, min_eq_right (by norm_num; omega), max_eq_right (by norm_num), BitVec.ofInt_natCast]

variable {c : Fin 256 → EReal} {x4 x5 x6 : Vec Ideal S2x128 .f32}

/-- The lookup from the tables of the levels is the value's level. -/
theorem look_eq (hsp : Spaced c) (h4 : Holds x4 (tabNext c)) (h5 : Holds x5 (tabLo c)) (h6 : Holds x6 (tabHi c))
    {v : EReal} (hv : 0 ≤ v ∨ ∀ i, v ≠ bnd c i) : look x4 x5 x6 v = lev c v := by
  obtain ⟨u, hu0, hu, huv⟩ := clipped v
  obtain ⟨e, hk⟩ := fptosi_cell hu0 hu
  rw [← hsp.lookup_eq hv hu0 hu huv]
  simp only [look, clip_eq, huv, e, h4.pick hk, h5.pick hk, h6.pick hk]

/-! ## The body's stages at an index -/

/-- What a point loads: the rows `x0`, the rotations `x1` and `x2` and the sum `x3` as two diagonal blocks, the tables, the
    last level. -/
structure Loaded (x1 x2 x3 : Vec Ideal S128x128 .f32) (x4 x5 x6 : Vec Ideal S2x128 .f32) (x7 : Vec Ideal S1x1 .f32)
    (s : Fin 64 → EReal) (H : Fin 64 → Fin 64 → EReal) (c : Fin 256 → EReal) : Prop where
  there : ∀ h k h' l, x1 (ix2 (lane h k) (lane h' l)) = if h = h' then s k * H k l * eighth else 0
  back : ∀ h k h' l, x2 (ix2 (lane h k) (lane h' l)) = if h = h' then H k l * s l * eighth else 0
  ones : ∀ h k h' l, x3 (ix2 (lane h k) (lane h' l)) = if h = h' then 1 else 0
  next : Holds x4 (tabNext c)
  lo : Holds x5 (tabLo c)
  hi : Holds x6 (tabHi c)
  last : x7 (ix2 0 0) = c 255

/-- The rows' entries are the arguments of the specification; the levels fit the lookup and the last is positive. -/
structure Fits (s : Fin 64 → EReal) (H : Fin 64 → Fin 64 → EReal) (c : Fin 256 → EReal) : Prop where
  signs : ∀ k, IsReal (s k)
  matrix : ∀ k l, IsReal (H k l)
  levels : Spaced c
  pos : 0 < c 255

theorem Fits.isReal {s : Fin 64 → EReal} {H : Fin 64 → Fin 64 → EReal} {c : Fin 256 → EReal} (hf : Fits s H c) (i : Fin 256) :
    IsReal (c i) := by
  obtain ⟨C, hC⟩ := hf.levels.real
  exact ⟨_, hC i⟩

section
variable {x0 : Vec Ideal S4096x128 .f32} {x1 x2 x3 : Vec Ideal S128x128 .f32} {x4 x5 x6 : Vec Ideal S2x128 .f32}
  {x7 : Vec Ideal S1x1 .f32} {s : Fin 64 → EReal} {H : Fin 64 → Fin 64 → EReal} {c : Fin 256 → EReal}

/-- Row `h` of the two that lie in packed row `r`. -/
abbrev rowOf (x0 : Vec Ideal S4096x128 .f32) (r : Fin 4096) (h : Fin 2) : Fin 64 → EReal := fun k => x0 (ix2 r (lane h k))

/-- A sum over the lanes by the matrix of ones. -/
theorem Loaded.sum (hL : Loaded x1 x2 x3 x4 x5 x6 x7 s H c) (f : Fin 128 → EReal) (h : Fin 2) (l : Fin 64) :
    ∑ k, f k * x3 (ix2 k (lane h l)) = ∑ k, f (lane h k) := by
  rw [block_sum (M := fun a b => x3 (ix2 a b)) (g := fun _ _ => 1) hL.ones]
  exact Finset.sum_congr rfl fun k _ => mul_one _

variable (r : Fin 4096) (h : Fin 2) (l : Fin 64)

theorem norm_apply (hL : Loaded x1 x2 x3 x4 x5 x6 x7 s H c) :
    k0_pay6 (View.ld x0 r0_0) (View.ld x3 r0_1) (ix2 r (lane h l)) = norm (rowOf x0 r h) := by
  pointwise [k0_pay6, k0_pay2, k0_pay4, r0_0, r0_1]
  rw [hL.sum (fun x => x0 (ix2 r x) * x0 (ix2 r x))]
  rfl

theorem rot_apply (hL : Loaded x1 x2 x3 x4 x5 x6 x7 s H c) (hf : Fits s H c) :
    k0_pay35 x0 x1 x2 x3 x4 x5 x6 x7 (ix2 r (lane h l)) = rot (rowOf x0 r h) s H l := by
  pointwise [k0_pay35, k0_pay7, k0_pay2, r0_0, r0_1]
  rw [block_sum (f := fun x => Ideal.div (x0 (ix2 r x)) (k0_pay6 (View.ld x0 r0_0) (View.ld x3 r0_1) (ix2 r x)))
    (M := fun a b => x1 (ix2 a b)) (g := fun k l => s k * H k l * eighth) hL.there, ← rot_folded hf.signs hf.matrix]
  exact Finset.sum_congr rfl fun k _ => by rw [norm_apply r h k hL]

theorem top_apply (hL : Loaded x1 x2 x3 x4 x5 x6 x7 s H c) (hf : Fits s H c) :
    k0_pay12 (k0_pay36 x0 x1 x2 x3 x4 x5 x6 x7) (k0_pay37 x0 x1 x2 x3 x4 x5 x6 x7) (k0_pay38 x0 x1 x2 x3 x4 x5 x6 x7)
      (ix2 r (lane h l)) = top (rot (rowOf x0 r h) s H) := by
  refine (shifts_apply (absf (k0_pay35 x0 x1 x2 x3 x4 x5 x6 x7)) r h l).trans ?_
  refine congrArg (Finset.univ.fold max ⊥) (funext fun l => ?_)
  pointwise []
  rw [rot_apply r h l hL hf]
  rfl

theorem rms_apply (hL : Loaded x1 x2 x3 x4 x5 x6 x7 s H c) (hf : Fits s H c) :
    k0_pay13 (k0_pay5 (View.ld x7 r0_2)) (k0_pay36 x0 x1 x2 x3 x4 x5 x6 x7) (k0_pay37 x0 x1 x2 x3 x4 x5 x6 x7)
      (k0_pay38 x0 x1 x2 x3 x4 x5 x6 x7) (ix2 r (lane h l)) = rms c (rot (rowOf x0 r h) s H) := by
  pointwise [k0_pay13, k0_pay5, r0_2]
  rw [top_apply r h l hL hf, hL.last]
  rfl

theorem val1_apply (hL : Loaded x1 x2 x3 x4 x5 x6 x7 s H c) (hf : Fits s H c) :
    k0_pay39 x0 x1 x2 x3 x4 x5 x6 x7 (ix2 r (lane h l)) = val1 c (rot (rowOf x0 r h) s H) l := by
  pointwise [k0_pay39, k0_pay14]
  rw [rms_apply r h l hL hf, rot_apply r h l hL hf]
  rfl

/-- The first pass's lookup. -/
theorem look1_apply (x0 : Vec Ideal S4096x128 .f32) (x1 x2 x3 : Vec Ideal S128x128 .f32) (x4 x5 x6 : Vec Ideal S2x128 .f32)
    (x7 : Vec Ideal S1x1 .f32) (r : Fin 4096) (j : Fin 128) :
    k0_pay23 (k0_pay39 x0 x1 x2 x3 x4 x5 x6 x7) (k0_pay41 x0 x1 x2 x3 x4 x5 x6 x7) (k0_pay42 x0 x1 x2 x3 x4 x5 x6 x7)
      (k0_pay43 x0 x1 x2 x3 x4 x5 x6 x7) (k0_pay44 x0 x1 x2 x3 x4 x5 x6 x7) (k0_pay45 x0 x1 x2 x3 x4 x5 x6 x7)
      (k0_pay46 x0 x1 x2 x3 x4 x5 x6 x7) (View.ld x5 r0_3) (View.ld x5 r0_4) (ix2 r j)
    = look x4 x5 x6 (k0_pay39 x0 x1 x2 x3 x4 x5 x6 x7 (ix2 r j)) := by
  pointwise [k0_pay23, k0_pay39, k0_pay40, k0_pay41, k0_pay42, k0_pay43, k0_pay44, k0_pay45, k0_pay46, k0_pay22, k0_pay21,
    k0_pay20, k0_pay19, k0_pay18, k0_pay17, k0_pay16, k0_pay15, r0_3, r0_4, look, pick, pos]
  rfl

/-- The second pass's lookup. -/
theorem look2_apply (v16 v172 : FVec Ideal S4096x128 .f32) (x4 x5 x6 : Vec Ideal S2x128 .f32) (r : Fin 4096) (j : Fin 128) :
    (if k0_pay25 v16 v172 (ix2 r j) < 0 then
        0 - k0_pay33 (k0_pay28 v16 v172) (k0_pay29 v16 v172) (k0_pay30 v16 v172 (View.ld x4 r0_3) (View.ld x4 r0_4))
          (k0_pay31 (View.ld x6 r0_3)) k0_pay32 (View.ld x6 r0_4) (View.ld x5 r0_3) (View.ld x5 r0_4) (ix2 r j)
      else
        k0_pay33 (k0_pay28 v16 v172) (k0_pay29 v16 v172) (k0_pay30 v16 v172 (View.ld x4 r0_3) (View.ld x4 r0_4))
          (k0_pay31 (View.ld x6 r0_3)) k0_pay32 (View.ld x6 r0_4) (View.ld x5 r0_3) (View.ld x5 r0_4) (ix2 r j))
    = look x4 x5 x6 (k0_pay25 v16 v172 (ix2 r j)) := by
  pointwise [k0_pay33, k0_pay32, k0_pay31, k0_pay30, k0_pay29, k0_pay28, k0_pay27, k0_pay26, r0_3, r0_4, look, pick, pos]
  rfl

/-- What the regular rows need: the row's rotation is regular. -/
abbrev RowRegular (x0 : Vec Ideal S4096x128 .f32) (s : Fin 64 → EReal) (H : Fin 64 → Fin 64 → EReal) (c : Fin 256 → EReal)
    (r : Fin 4096) (h : Fin 2) : Prop := Regular c (rot (rowOf x0 r h) s H)

theorem rec1_apply (hL : Loaded x1 x2 x3 x4 x5 x6 x7 s H c) (hf : Fits s H c) (hr : RowRegular x0 s H c r h) :
    k0_pay23 (k0_pay39 x0 x1 x2 x3 x4 x5 x6 x7) (k0_pay41 x0 x1 x2 x3 x4 x5 x6 x7) (k0_pay42 x0 x1 x2 x3 x4 x5 x6 x7)
      (k0_pay43 x0 x1 x2 x3 x4 x5 x6 x7) (k0_pay44 x0 x1 x2 x3 x4 x5 x6 x7) (k0_pay45 x0 x1 x2 x3 x4 x5 x6 x7)
      (k0_pay46 x0 x1 x2 x3 x4 x5 x6 x7) (View.ld x5 r0_3) (View.ld x5 r0_4) (ix2 r (lane h l))
    = rec1 c (rot (rowOf x0 r h) s H) l := by
  rw [look1_apply, val1_apply r h l hL hf, look_eq hf.levels hL.next hL.lo hL.hi (hr.first l)]
  rfl

theorem gamma1_apply (hL : Loaded x1 x2 x3 x4 x5 x6 x7 s H c) (hf : Fits s H c) (hr : RowRegular x0 s H c r h) :
    k0_pay47 x0 x1 x2 x3 x4 x5 x6 x7 (ix2 r (lane h l)) = gamma1 c (rot (rowOf x0 r h) s H) := by
  pointwise [k0_pay47, k0_pay24, k0_pay34, k0_pay4, r0_1]
  rw [hL.sum (fun x => k0_pay35 x0 x1 x2 x3 x4 x5 x6 x7 (ix2 r x) * _), hL.sum (fun x => _ * _)]
  simp only [rec1_apply r h _ hL hf hr, rot_apply r h _ hL hf]
  rfl

theorem val2_apply (hL : Loaded x1 x2 x3 x4 x5 x6 x7 s H c) (hf : Fits s H c) (hr : RowRegular x0 s H c r h) :
    k0_pay25 (k0_pay35 x0 x1 x2 x3 x4 x5 x6 x7) (k0_pay47 x0 x1 x2 x3 x4 x5 x6 x7) (ix2 r (lane h l))
      = val2 c (rot (rowOf x0 r h) s H) l := by
  pointwise [k0_pay25]
  rw [gamma1_apply r h l hL hf hr, rot_apply r h l hL hf]
  rfl

theorem mean_apply (hL : Loaded x1 x2 x3 x4 x5 x6 x7 s H c) (hf : Fits s H c) :
    (∑ x, FloatOps.absf (k0_pay7 (View.ld x0 r0_0) (View.ld x1 r0_1) (View.ld x3 r0_1) (ix2 r x)) * x3 (ix2 x (lane h l)))
      * Ideal.ofBits .f32 0x3C800000#32 + eps = mean (rot (rowOf x0 r h) s H) := by
  rw [hL.sum (fun x => FloatOps.absf (k0_pay7 (View.ld x0 r0_0) (View.ld x1 r0_1) (View.ld x3 r0_1) (ix2 r x))), ← mean_mul]
  change (∑ k, FloatOps.absf (k0_pay35 x0 x1 x2 x3 x4 x5 x6 x7 (ix2 r (lane h k)))) * _ + _ = _
  simp only [rot_apply r h _ hL hf]
  rfl

theorem zero2 : (![0, 0] : Fin 2 → ℕ) = fun _ => 0 := funext fun a => by fin_cases a <;> rfl

/-- The block that the body leaves, at an index: the specification's row. -/
theorem block_apply (hL : Loaded x1 x2 x3 x4 x5 x6 x7 s H c) (hf : Fits s H c) (hr : RowRegular x0 s H c r h) :
    out0_8 x0 x1 x2 x3 x4 x5 x6 x7 (ix2 r (lane h l)) = out (rowOf x0 r h) s H c l := by
  rw [out0_8, View.canon_unit_zero zero2]
  pointwise [k0_pay1, k0_pay34, k0_pay4, k0_pay3, k0_pay8]
  rw [block_sum (M := fun a b => x2 (ix2 a b)) hL.back, norm_apply r h l hL, ← out_folded hf.signs hf.matrix hf.isReal hf.pos]
  refine congrArg (· * norm (rowOf x0 r h)) (Finset.sum_congr rfl fun k _ => congrArg (· * _) ?_)
  rw [mean_apply r h k hL hf, look2_apply]
  simp only [rec1_apply r h k hL hf hr, val2_apply r h k hL hf hr, top_apply r h k hL hf,
    rms_apply r h k hL hf, gamma1_apply r h k hL hf hr]
  unfold rec2 gam
  by_cases hs : spiky (rot (rowOf x0 r h) s H)
  · rw [if_pos hs, if_pos hs]
    unfold spiky at hs
    rw [if_pos hs, if_pos hs]
    rfl
  · rw [if_neg hs, if_neg hs, look_eq hf.levels hL.next hL.lo hL.hi ((hr.second k).resolve_left hs)]
    unfold spiky at hs
    rw [if_neg hs, if_neg hs]

end

end Cert.Quant

end
-- ==== Proof.Count.lean ====
/- Counting with bits: a word that sums one bit per index is the number of indices that hold, and the bit read back. -/
module

public import proofs.«01_k».proof.Proof.Levels

@[expose] public section

noncomputable section

namespace Cert.Quant

open Idealize.ShloMosaic

/-- The words of the comparisons' bits add up to the word of the number that hold. -/
theorem count_word {ι : Type} (t : Finset ι) (p : ι → Prop) [DecidablePred p] :
    Finset.fold IntOp.addi 0#32 (fun i => BitVec.setWidth 32 (BitVec.ofBool (decide (p i)))) t = BitVec.ofNat 32 (t.filter p).card := by
  classical
  induction t using Finset.induction_on with
  | empty => rfl
  | insert a t ha ih =>
    rw [Finset.fold_insert ha, ih]
    by_cases h : p a
    · rw [Finset.filter_insert, if_pos h, Finset.card_insert_of_notMem (by simp [ha])]
      simp only [IntOp.addi, h, decide_true]
      apply BitVec.eq_of_toNat_eq
      simp [BitVec.toNat_add, BitVec.toNat_ofNat]
      omega
    · rw [Finset.filter_insert, if_neg h]
      simp only [IntOp.addi, h, decide_false]
      apply BitVec.eq_of_toNat_eq
      simp [BitVec.toNat_add, BitVec.toNat_ofNat]

/-- Small words are equal when their numbers are. -/
theorem cmp_eq_bit (a b : Fin 256) : IntOp.cmpi .eq (BitVec.ofNat 32 a.val) (BitVec.ofNat 32 b.val) = BitVec.ofBool (decide (a = b)) := by
  have e : (BitVec.ofNat 32 a.val = BitVec.ofNat 32 b.val) ↔ a = b := by
    constructor
    · intro h
      have := congrArg BitVec.toNat h
      simp only [BitVec.toNat_ofNat] at this
      ext; omega
    · rintro rfl; rfl
  simp only [IntOp.cmpi]
  by_cases h : a = b
  · simp [h]
  · rw [beq_eq_false_iff_ne.mpr (mt e.mp h)]; simp [h]

/-- A number at most 255 is below 255 as a signed word when it is below 255. -/
theorem cmp_slt_bit (a : Fin 256) : IntOp.cmpi .slt (BitVec.ofNat 32 a.val) 255#32 = BitVec.ofBool (decide (a.val < 255)) :=
  (by decide +kernel : ∀ a : Fin 256, IntOp.cmpi .slt (BitVec.ofNat 32 a.val) 255#32 = BitVec.ofBool (decide (a.val < 255))) a

/-- A number at most 255 is not negative as a signed word. -/
theorem cmp_neg_bit (a : Fin 256) : IntOp.cmpi .slt (BitVec.ofNat 32 a.val) 0#32 = 0#1 :=
  (by decide +kernel : ∀ a : Fin 256, IntOp.cmpi .slt (BitVec.ofNat 32 a.val) 0#32 = 0#1) a

/-- The number of a small word. -/
theorem word_toNat (a : Fin 256) : (BitVec.ofNat 32 a.val).toNat = a.val := by
  simp only [BitVec.toNat_ofNat]; omega

/-- A small word as a real number. -/
theorem word_real (a : Fin 256) : (FloatOps.sitofp .f32 (BitVec.ofNat 32 a.val) : Ideal .f32) = ((a.val : ℝ) : EReal) := by
  have h : (BitVec.ofNat 32 a.val).toInt = (a.val : ℤ) :=
    (by decide +kernel : ∀ a : Fin 256, (BitVec.ofNat 32 a.val).toInt = (a.val : ℤ)) a
  show (((BitVec.ofNat 32 a.val).toInt : ℝ) : EReal) = _
  rw [h]; norm_cast

/-- A bit as a real number. -/
theorem bit_real (p : Prop) [Decidable p] : (FloatOps.uitofp .f32 (BitVec.ofBool (decide p)) : Ideal .f32) = if p then (1 : EReal) else 0 := by
  show ((((BitVec.ofBool (decide p)).toNat : ℕ) : ℝ) : EReal) = _
  by_cases h : p <;> simp [h]

/-- A choice by a bit. -/
theorem select_bit {α : Type} (p : Prop) [Decidable p] (a b : α) : Scalar.select (BitVec.ofBool (decide p)) a b = if p then a else b := by
  by_cases h : p <;> simp [Scalar.select, h]

/-- The word that counts the boundaries below a value is the word of the value's level. -/
theorem count_idx (c : Fin 256 → EReal) (v : EReal) (f : Fin 255 → EReal) (w : EReal) (hf : ∀ i, f i = bnd c i) (hw : w = v)
    (inst : ∀ i, Decidable (f i < w)) :
    Finset.fold IntOp.addi 0#32 (fun i => BitVec.setWidth 32 (BitVec.ofBool (@decide (f i < w) (inst i)))) Finset.univ =
      BitVec.ofNat 32 (idx c v).val := by
  obtain rfl : f = bnd c := funext hf
  subst hw
  rw [count_word]
  simp only [idx]
  congr!

end Cert.Quant

end
-- ==== Proof.KernelTables.lean ====
/- What the kernel's host operations leave in the arrays that every point reads: the two rotations, the matrix of ones and the tables. -/
module

public import proofs.«01_k».proof.Proof.KernelBlock
public import proofs.«01_k».proof.Proof.Count
public import Idealize.ShloMosaic.Lib.StableHlo.RunRead

@[expose] public section

set_option maxRecDepth 16384

noncomputable section

namespace Cert.Quant

open Idealize.ShloMosaic Idealize.ShloMosaic.TcCoe Idealize.SL.Sem Cert.KernelIdeal Cert.KernelIdeal.Gen

/-! ## The arrays as the host operations write them -/

section
variable (a : FVec Ideal S64x64 .f32) (A1 : Vec Ideal S1x64 .f32) (A2 : Vec Ideal S64x64 .f32) (A3 : Vec Ideal S256 .f32)

/-- Zeros. -/
def zeros : FVec Ideal S64x64 .f32 := broadcastInDim S64x64 ![] bcast_S_S64x64 (constant S_ .f32 0x00000000#32)
/-- Two copies of a matrix on the diagonal, zeros beside. -/
def twice : FVec Ideal S128x128 .f32 :=
  concatenate S128x128 0 [⟨S64x128, concatenate S64x128 1 [⟨S64x64, a⟩, ⟨S64x64, zeros⟩] concatenates_S64x64_S64x64_S64x128_d1⟩,
    ⟨S64x128, concatenate S64x128 1 [⟨S64x64, zeros⟩, ⟨S64x64, a⟩] concatenates_S64x64_S64x64_S64x128_d1⟩]
    concatenates_S64x128_S64x128_S128x128_d0
/-- The signs as one row. -/
def signs : Vec Ideal S64 .f32 := shapeCast S64 A1 shapeCasts_S1x64_S64
/-- One eighth everywhere. -/
def eighths : FVec Ideal S64x64 .f32 := broadcastInDim S64x64 ![] bcast_S_S64x64 (constant S_ .f32 0x3E000000#32)
/-- The rotation: the rows of the matrix signed, and scaled. -/
def thereMat : FVec Ideal S64x64 .f32 :=
  mulf (mulf (broadcastInDim S64x64 ![0, 1] bcast_S64x1_S64x64_0_1 (broadcastInDim S64x1 ![0] bcast_S64_S64x1_0 (signs A1))) A2) eighths
/-- The rotation back: the columns of the matrix signed, and scaled. -/
def backMat : FVec Ideal S64x64 .f32 :=
  mulf (mulf A2 (broadcastInDim S64x64 ![0, 1] bcast_S1x64_S64x64_0_1 (broadcastInDim S1x64 ![1] bcast_S64_S1x64_1 (signs A1)))) eighths
/-- Ones. -/
def onesMat : FVec Ideal S64x64 .f32 := broadcastInDim S64x64 ![] bcast_S_S64x64 (constant S_ .f32 0x3F800000#32)

/-- The boundaries. -/
def bounds : FVec Ideal S255 .f32 :=
  mulf (addf (extractStridedSlice S255 ![0] A3 slices_S256_S255_0) (extractStridedSlice S255 ![1] A3 slices_S256_S255_1))
    (broadcastInDim S255 ![] bcast_S_S255 (constant S_ .f32 0x3F000000#32))
/-- The left edges of the cells. -/
def edges : FVec Ideal S256 .f32 :=
  addf (broadcastInDim S256 ![] bcast_S_S256 (constant S_ .f32 0x00000000#32))
    (mulf (broadcastInDim S256 ![] bcast_S_S256 (constant S_ .f32 0x3CA3D70A#32)) (sitofp .f32 (iotaInDim S256 32 0)))
/-- Which boundaries lie below which edges. -/
def below : IVec S256x255 1 :=
  cmpf .olt (broadcastInDim S256x255 ![0, 1] bcast_S1x255_S256x255_0_1 (broadcastInDim S1x255 ![1] bcast_S255_S1x255_1 (bounds A3)))
    (broadcastInDim S256x255 ![0, 1] bcast_S256x1_S256x255_0_1 (broadcastInDim S256x1 ![0] bcast_S256_S256x1_0 edges))
/-- How many of them. -/
def bases : IVec S256 32 :=
  Host.reduce IntOp.addi (extui 32 (below A3) natLt_1_32) (constantI S_ 32 0#32) reducesTo_S256x255_S256_d1 h_S_
/-- The matrix with a one at each cell's number of boundaries. -/
def onehot : FVec Ideal S256x256 .f32 :=
  uitofp .f32 (cmpi .eq
    (broadcastInDim S256x256 ![0, 1] bcast_S256x1_S256x256_0_1 (broadcastInDim S256x1 ![0] bcast_S256_S256x1_0 (bases A3)))
    (broadcastInDim S256x256 ![0, 1] bcast_S1x256_S256x256_0_1 (broadcastInDim S1x256 ![1] bcast_S256_S1x256_1 (iotaInDim S256 32 0))))
/-- The boundaries, the last one twice. -/
def boundsPad : FVec Ideal S256 .f32 :=
  concatenate S256 0 [⟨S255, bounds A3⟩, ⟨S1, extractStridedSlice S1 ![254] (bounds A3) slices_S255_S1_254⟩] concatenates_S255_S1_S256_d0
/-- The levels from the second on, the last one twice. -/
def levelsPad : FVec Ideal S256 .f32 :=
  concatenate S256 0 [⟨S255, extractStridedSlice S255 ![1] A3 slices_S256_S255_1⟩, ⟨S1, extractStridedSlice S1 ![255] A3 slices_S256_S1_255⟩]
    concatenates_S255_S1_S256_d0
/-- An array read at each cell's number of boundaries. -/
def readAt (b : FVec Ideal S256 .f32) : FVec Ideal S256 .f32 := Host.dotGeneral dot_S256x256_S256_S256_1_0_0_n_n_n (some .fp32) (onehot A3) b
/-- The boundary in each cell. -/
def nextTab : FVec Ideal S256 .f32 :=
  select (cmpi .slt (bases A3) (broadcastInDim S256 ![] bcast_S_S256 (constantI S_ 32 255#32))) (readAt A3 (boundsPad A3))
    (broadcastInDim S256 ![] bcast_S_S256 (constant S_ .f32 0x7149F2CA#32))
end

variable (m : (ℓ : Loc nD τ sig) → Buf (Elt Ideal) ℓ) (c : Dev nD)

theorem V_there : (V m c main_call0_v15 : Vec Ideal S128x128 .f32) = twice (thereMat (m (c, main_arg1)) (m (c, main_arg2))) := by
  after_reads_simp
  rfl
theorem V_back : (V m c main_call0_v18 : Vec Ideal S128x128 .f32) = twice (backMat (m (c, main_arg1)) (m (c, main_arg2))) := by
  after_reads_simp
  rfl
theorem V_ones : (V m c main_call0_v22 : Vec Ideal S128x128 .f32) = twice onesMat := by
  after_reads_simp
  rfl
theorem V_bounds : (V m c main_call0_v27 : Vec Ideal S255 .f32) = bounds (m (c, main_arg3)) := by
  after_reads_simp
  rfl
/-- The fourth argument as a typed reference reads it. -/
theorem arg_eq (h h' h'') : (StableHlo.TRef.of main_arg3 h h' h'' : StableHlo.TRef sig ⟨S256, .f32⟩).ofBuf (m (c, Proc.tc.devRef main_arg3)) =
    m (c, Proc.tc.devRef main_arg3) := rfl
theorem bases_eq (h h' h'') (v : Vec Ideal S256 .i32) : (StableHlo.TRef.of main_call0_v39 h h' h'' : StableHlo.TRef sig ⟨S256, .i32⟩).toBuf v = v := rfl
theorem onehot_eq (h h' h'') (v : Vec Ideal S256x256 .f32) : (StableHlo.TRef.of main_call0_v46 h h' h'' : StableHlo.TRef sig ⟨S256x256, .f32⟩).toBuf v = v := rfl
theorem next_eq (h h' h'') (v : Vec Ideal S256 .f32) : (StableHlo.TRef.of main_call0_v52 h h' h'' : StableHlo.TRef sig ⟨S256, .f32⟩).toBuf v = v := rfl
theorem lo_eq (h h' h'') (v : Vec Ideal S256 .f32) : (StableHlo.TRef.of main_call0_v53 h h' h'' : StableHlo.TRef sig ⟨S256, .f32⟩).toBuf v = v := rfl
theorem hi_eq (h h' h'') (v : Vec Ideal S256 .f32) : (StableHlo.TRef.of main_call0_v57 h h' h'' : StableHlo.TRef sig ⟨S256, .f32⟩).toBuf v = v := rfl
theorem V_bases : (V m c main_call0_v39 : Vec Ideal S256 .i32) = bases (m (c, main_arg3)) := by
  after_reads_simp
  simp only [StableHlo.TRef.ofBuf_toBuf, arg_eq]
  exact bases_eq _ _ _ _
theorem V_onehot : (V m c main_call0_v46 : Vec Ideal S256x256 .f32) = onehot (m (c, main_arg3)) := by
  after_reads_simp
  simp only [StableHlo.TRef.ofBuf_toBuf, arg_eq]
  exact onehot_eq _ _ _ _
theorem V_next : (V m c main_call0_v52 : Vec Ideal S256 .f32) = nextTab (m (c, main_arg3)) := by
  after_reads_simp
  simp only [StableHlo.TRef.ofBuf_toBuf, arg_eq]
  exact next_eq _ _ _ _
theorem V_lo : (V m c main_call0_v53 : Vec Ideal S256 .f32) = readAt (m (c, main_arg3)) (m (c, main_arg3)) := by
  after_reads_simp
  simp only [StableHlo.TRef.ofBuf_toBuf, arg_eq]
  exact lo_eq _ _ _ _
theorem V_hi : (V m c main_call0_v57 : Vec Ideal S256 .f32) = readAt (m (c, main_arg3)) (levelsPad (m (c, main_arg3))) := by
  after_reads_simp
  simp only [StableHlo.TRef.ofBuf_toBuf, arg_eq]
  exact hi_eq _ _ _ _
theorem V_next2 : (V m c main_call0_v58 : Vec Ideal S2x128 .f32) = shapeCast S2x128 (V m c main_call0_v52 : Vec Ideal S256 .f32) shapeCasts_S256_S2x128 := by
  after_reads_simp
  rfl
theorem V_lo2 : (V m c main_call0_v59 : Vec Ideal S2x128 .f32) = shapeCast S2x128 (V m c main_call0_v53 : Vec Ideal S256 .f32) shapeCasts_S256_S2x128 := by
  after_reads_simp
  rfl
theorem V_hi2 : (V m c main_call0_v60 : Vec Ideal S2x128 .f32) = shapeCast S2x128 (V m c main_call0_v57 : Vec Ideal S256 .f32) shapeCasts_S256_S2x128 := by
  after_reads_simp
  rfl
theorem V_last : (V m c main_call0_v63 : Vec Ideal S1x1 .f32) =
    shapeCast S1x1 (shapeCast S_ (extractStridedSlice S1 ![255] (m (c, main_arg3) : Vec Ideal S256 .f32) slices_S256_S1_255) shapeCasts_S1_S_) shapeCasts_S_S1x1 := by
  after_reads_simp
  rfl
theorem V_in : (V m c main_call0_v0 : Vec Ideal S131072x128 .f32) =
    shapeCast S131072x128 (m (c, main_arg0) : Vec Ideal S256x1024x64 .f32) shapeCasts_S256x1024x64_S131072x128 := by
  after_reads_simp
  rfl

/-! ## Their entries -/

section
variable (a : FVec Ideal S64x64 .f32) (A1 : Vec Ideal S1x64 .f32) (A2 : Vec Ideal S64x64 .f32) (A3 : Vec Ideal S256 .f32)

/-- The levels, as a function. -/
abbrev levelsOf : Fin 256 → EReal := fun i => A3 (ix1 i)

theorem twice_apply (h : Fin 2) (k : Fin 64) (h' : Fin 2) (l : Fin 64) :
    twice a (ix2 (lane h k) (lane h' l)) = if h = h' then a (ix2 k l) else (0 : EReal) := by
  pointwise [twice, zeros]
  have hk := k.isLt
  have hl := l.isLt
  have e0 : ∀ k : Fin 64, (lane 0 k).val = k.val := fun k => by simp [lane]
  have e1 : ∀ k : Fin 64, (lane 1 k).val = 64 + k.val := fun k => by simp [lane]
  obtain rfl | rfl : h = 0 ∨ h = 1 := by omega
  · obtain rfl | rfl : h' = 0 ∨ h' = 1 := by omega
    · simp [e0]
    · simp [e0, e1]
  · obtain rfl | rfl : h' = 0 ∨ h' = 1 := by omega
    · simp [e0, e1]
    · simp [e1]

theorem thereMat_apply (k l : Fin 64) : thereMat A1 A2 (ix2 k l) = (A1 (ix2 0 k) * A2 (ix2 k l) * eighth : EReal) := by
  pointwise [thereMat, signs, eighths]

theorem backMat_apply (k l : Fin 64) : backMat A1 A2 (ix2 k l) = (A2 (ix2 k l) * A1 (ix2 0 l) * eighth : EReal) := by
  pointwise [backMat, signs, eighths]

theorem onesMat_apply (k l : Fin 64) : onesMat (ix2 k l) = (1 : EReal) := by
  pointwise [onesMat]

theorem bounds_apply (i : Fin 255) : bounds A3 (ix1 i) = bnd (levelsOf A3) i := by
  pointwise [bounds]
  have e : (⟨1 + i.val, by omega⟩ : Fin 256) = i.succ := by ext; simp; omega
  show (A3 (ix1 ⟨i.val, _⟩) + A3 (ix1 ⟨1 + i.val, _⟩)) * half = _
  erw [e]
  rfl

theorem edges_apply (k : Fin 256) : edges (ix1 k) = ((edge k.val : ℝ) : EReal) := by
  pointwise [edges]
  rw [step_eq, word_real, edge]
  norm_cast

theorem bases_apply (k : Fin 256) : bases A3 (ix1 k) = BitVec.ofNat 32 (base (levelsOf A3) k.val).val := by
  pointwise [bases, below]
  exact count_idx _ _ _ _ (bounds_apply A3) (edges_apply k) _

theorem onehot_apply (k l : Fin 256) : onehot A3 (ix2 k l) = if base (levelsOf A3) k.val = l then (1 : EReal) else 0 := by
  pointwise [onehot]
  rw [bases_apply, cmp_eq_bit]
  exact bit_real _

theorem readAt_apply (b : FVec Ideal S256 .f32) (k : Fin 256) : readAt A3 b (ix1 k) = b (ix1 (base (levelsOf A3) k.val)) := by
  pointwise [readAt]
  rw [Finset.sum_eq_single (base (levelsOf A3) k.val)]
  · rw [onehot_apply, if_pos rfl]; exact one_mul _
  · intro x _ hx
    rw [onehot_apply, if_neg (Ne.symm hx)]; exact zero_mul _
  · intro h; exact absurd (Finset.mem_univ _) h

theorem nextTab_apply (k : Fin 256) : nextTab A3 (ix1 k) = tabNext (levelsOf A3) k.val := by
  pointwise [nextTab]
  rw [bases_apply, cmp_slt_bit, select_bit, readAt_apply, big_eq]
  unfold tabNext
  split
  · rename_i h
    pointwise [boundsPad]
    rw [dif_pos h, bounds_apply]
  · rfl

theorem hiTab_apply (k : Fin 256) : readAt A3 (levelsPad A3) (ix1 k) = tabHi (levelsOf A3) k.val := by
  rw [readAt_apply]
  pointwise [levelsPad]
  unfold tabHi levelsOf
  have := (base (levelsOf A3) k.val).isLt
  split
  · congr 3; omega
  · congr 3; omega

end

/-- What every point reads is what the specification of a block assumes. -/
theorem loaded : Loaded (V m c main_call0_v15) (V m c main_call0_v18) (V m c main_call0_v22) (V m c main_call0_v58)
    (V m c main_call0_v59) (V m c main_call0_v60) (V m c main_call0_v63)
    (fun k => (m (c, main_arg1) : Vec Ideal S1x64 .f32) (ix2 0 k)) (fun k l => (m (c, main_arg2) : Vec Ideal S64x64 .f32) (ix2 k l))
    (levelsOf (m (c, main_arg3))) where
  there h k h' l := by
    rw [V_there, twice_apply, thereMat_apply]
  back h k h' l := by
    rw [V_back, twice_apply, backMat_apply]
  ones h k h' l := by
    rw [V_ones, twice_apply, onesMat_apply]
  next a j := by
    rw [V_next2, V_next]
    pointwise []
    rw [nextTab_apply]
  lo a j := by
    rw [V_lo2, V_lo]
    pointwise []
    rw [readAt_apply]
    rfl
  hi a j := by
    rw [V_hi2, V_hi]
    pointwise []
    rw [hiTab_apply]
  last := by
    rw [V_last]
    pointwise []

end Cert.Quant

end
-- ==== Proof.Result.lean ====
/- The result as a function of the arguments: entry by entry, by the specification of a row. -/
module

public import proofs.«01_k».proof.Proof.Row

@[expose] public section

noncomputable section

namespace Cert.Quant

/-- Row `r` of the input, the two leading axes counted as one. -/
def rowAt (x : Fin 256 → Fin 1024 → Fin 64 → EReal) (r : Fin 262144) : Fin 64 → EReal :=
  fun k => x ⟨r.val / 1024, by omega⟩ ⟨r.val % 1024, by omega⟩ k

/-- The row whose entries lie at lane `q` of packed row `p`. -/
def rowNo (p : Fin 131072) (q : Fin 128) : Fin 262144 := ⟨2 * p.val + q.val / 64, by omega⟩

/-- The result at packed row `p`, lane `q`. -/
def result (x : Fin 256 → Fin 1024 → Fin 64 → EReal) (s : Fin 64 → EReal) (H : Fin 64 → Fin 64 → EReal) (c : Fin 256 → EReal)
    (p : Fin 131072) (q : Fin 128) : EReal :=
  out (rowAt x (rowNo p q)) s H c ⟨q.val % 64, by omega⟩

end Cert.Quant

end
-- ==== Proof.KernelArray.lean ====
/- The array the kernel leaves: each point's block put in its place. -/
module

public import proofs.«01_k».proof.Proof.KernelTables
public import proofs.«01_k».proof.Proof.Result
public import Idealize.ShloMosaic.Lib.Pipeline.ValueKit

@[expose] public section

set_option maxRecDepth 16384

noncomputable section

namespace Cert.Quant

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments as functions. -/
abbrev inOf : Fin 256 → Fin 1024 → Fin 64 → EReal := fun a b k => (m (c, main_arg0) : Vec Ideal S256x1024x64 .f32) (ix3 a b k)
abbrev signsOf : Fin 64 → EReal := fun k => (m (c, main_arg1) : Vec Ideal S1x64 .f32) (ix2 0 k)
abbrev matrixOf : Fin 64 → Fin 64 → EReal := fun k l => (m (c, main_arg2) : Vec Ideal S64x64 .f32) (ix2 k l)
abbrev centresOf : Fin 256 → EReal := levelsOf (m (c, main_arg3))

/-- Where the windows' blocks lie. -/
theorem places : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] :=
  (by decide +kernel : ∀ t : Fin grid0.N, _)

/-! The windows of the tables take the whole array, whatever it holds. -/

theorem whole1 (t : Fin cfg0.N) (X : Buf (Elt Ideal) ((c : Thread nD τ).loc main_call0_v15)) :
    (((cfg0.win 1).blk t).view.read (Elt Ideal) X : Vec Ideal S128x128 .f32) = X := by
  funext y; blk_ext [places t]
theorem whole2 (t : Fin cfg0.N) (X : Buf (Elt Ideal) ((c : Thread nD τ).loc main_call0_v18)) :
    (((cfg0.win 2).blk t).view.read (Elt Ideal) X : Vec Ideal S128x128 .f32) = X := by
  funext y; blk_ext [places t]
theorem whole3 (t : Fin cfg0.N) (X : Buf (Elt Ideal) ((c : Thread nD τ).loc main_call0_v22)) :
    (((cfg0.win 3).blk t).view.read (Elt Ideal) X : Vec Ideal S128x128 .f32) = X := by
  funext y; blk_ext [places t]
theorem whole4 (t : Fin cfg0.N) (X : Buf (Elt Ideal) ((c : Thread nD τ).loc main_call0_v58)) :
    (((cfg0.win 4).blk t).view.read (Elt Ideal) X : Vec Ideal S2x128 .f32) = X := by
  funext y; blk_ext [places t]
theorem whole5 (t : Fin cfg0.N) (X : Buf (Elt Ideal) ((c : Thread nD τ).loc main_call0_v59)) :
    (((cfg0.win 5).blk t).view.read (Elt Ideal) X : Vec Ideal S2x128 .f32) = X := by
  funext y; blk_ext [places t]
theorem whole6 (t : Fin cfg0.N) (X : Buf (Elt Ideal) ((c : Thread nD τ).loc main_call0_v60)) :
    (((cfg0.win 6).blk t).view.read (Elt Ideal) X : Vec Ideal S2x128 .f32) = X := by
  funext y; blk_ext [places t]
theorem whole7 (t : Fin cfg0.N) (X : Buf (Elt Ideal) ((c : Thread nD τ).loc main_call0_v63)) :
    (((cfg0.win 7).blk t).view.read (Elt Ideal) X : Vec Ideal S1x1 .f32) = X := by
  funext y; blk_ext [places t]

/-- The block of the input that a point reads. -/
theorem part0 (t : Fin 32) (X : Buf (Elt Ideal) ((c : Thread nD τ).loc main_call0_v0)) (r : Fin 4096) (q : Fin 128) :
    (((cfg0.win 0).blk t).view.read (Elt Ideal) X : Vec Ideal S4096x128 .f32) (ix2 r q) =
      (X : Vec Ideal S131072x128 .f32) (ix2 ⟨4096 * t.val + r.val, by omega⟩ q) := by
  blk_ext [places t]

/-- The input packed two rows to one. -/
theorem packed_apply (X : Vec Ideal S256x1024x64 .f32) (p : Fin 131072) (h : Fin 2) (l : Fin 64) :
    (shapeCast S131072x128 X shapeCasts_S256x1024x64_S131072x128) (ix2 p (lane h l)) =
      rowAt (fun a b k => X (ix3 a b k)) (rowNo p (lane h l)) l := by
  pointwise []
  have hl := l.isLt
  have hh := h.isLt
  have e : (lane h l).val = h.val * 64 + l.val := rfl
  show X (ix3 _ _ _) = X (ix3 _ _ _)
  congr 1
  ext1 a
  fin_cases a
  · exact Fin.ext (show p.val / 512 = (2 * p.val + (lane h l).val / 64) / 1024 by omega)
  · exact Fin.ext (show p.val % 512 * 2 + (lane h l).val / 64 = (2 * p.val + (lane h l).val / 64) % 1024 by omega)
  · exact Fin.ext (show (lane h l).val % 64 = l.val by omega)

theorem blk1 (t : Fin cfg0.N) : (iblk m c 1 t : Vec Ideal S128x128 .f32) = V m c main_call0_v15 := whole1 c t _
theorem blk2 (t : Fin cfg0.N) : (iblk m c 2 t : Vec Ideal S128x128 .f32) = V m c main_call0_v18 := whole2 c t _
theorem blk3 (t : Fin cfg0.N) : (iblk m c 3 t : Vec Ideal S128x128 .f32) = V m c main_call0_v22 := whole3 c t _
theorem blk4 (t : Fin cfg0.N) : (iblk m c 4 t : Vec Ideal S2x128 .f32) = V m c main_call0_v58 := whole4 c t _
theorem blk5 (t : Fin cfg0.N) : (iblk m c 5 t : Vec Ideal S2x128 .f32) = V m c main_call0_v59 := whole5 c t _
theorem blk6 (t : Fin cfg0.N) : (iblk m c 6 t : Vec Ideal S2x128 .f32) = V m c main_call0_v60 := whole6 c t _
theorem blk7 (t : Fin cfg0.N) : (iblk m c 7 t : Vec Ideal S1x1 .f32) = V m c main_call0_v63 := whole7 c t _

/-- The input's block, by rows of the input. -/
theorem blk0 (t : Fin 32) (r : Fin 4096) (h : Fin 2) (l : Fin 64) :
    (iblk m c 0 t : Vec Ideal S4096x128 .f32) (ix2 r (lane h l)) =
      rowAt (inOf m c) (rowNo ⟨4096 * t.val + r.val, by omega⟩ (lane h l)) l := by
  rw [← packed_apply, ← V_in]
  exact part0 c t _ r _

/-- The array the kernel leaves, when the arguments fit and every row is regular. -/
theorem kernel_array (hf : Fits (signsOf m c) (matrixOf m c) (centresOf m c))
    (hr : ∀ r, Regular (centresOf m c) (rot (rowAt (inOf m c) r) (signsOf m c) (matrixOf m c))) :
    (dats m 0 c).arrAt 8 cfg0.N =
      ((fun i => result (inOf m c) (signsOf m c) (matrixOf m c) (centresOf m c) (i 0) (i 1)) : Vec Ideal S131072x128 .f32) := by
  refine (dats m 0 c).arrAt_eq_of_covers 8 _ (by decide +kernel) fun t hf' y => ?_
  blk_simp
  rw [after0_8]
  idx_vars y
  have ht : t.val < 32 := t.isLt
  have hp : 4096 * t.val + y0.val < 131072 := by have := y0.isLt; omega
  have e0 : (((View.whole main_v0).slice (win0_8.rect t)).emb (ix2 y0 y1) 0 : Fin 131072) = ⟨4096 * t.val + y0.val, hp⟩ := by
    apply Fin.ext
    show _ = 4096 * t.val + y0.val
    blk_simp [places t]
    omega
  have e1 : (((View.whole main_v0).slice (win0_8.rect t)).emb (ix2 y0 y1) 1 : Fin 128) = y1 := by
    apply Fin.ext
    blk_simp [places t]
  rw [e0, e1]
  obtain ⟨h, l, rfl⟩ : ∃ (h : Fin 2) (l : Fin 64), lane h l = y1 :=
    ⟨⟨y1.val / 64, by omega⟩, ⟨y1.val % 64, by omega⟩, Fin.ext (by show y1.val / 64 * 64 + y1.val % 64 = _; omega)⟩
  have hrow : rowOf (iblk m c 0 t : Vec Ideal S4096x128 .f32) y0 h = rowAt (inOf m c) (rowNo ⟨4096 * t.val + y0.val, by omega⟩ (lane h l)) := by
    funext k
    have := blk0 m c t y0 h k
    refine this.trans ?_
    have e : rowNo ⟨4096 * t.val + y0.val, by omega⟩ (lane h k) = rowNo ⟨4096 * t.val + y0.val, by omega⟩ (lane h l) :=
      Fin.ext (show 2 * (4096 * t.val + y0.val) + (h.val * 64 + k.val) / 64 = 2 * (4096 * t.val + y0.val) + (h.val * 64 + l.val) / 64 by omega)
    rw [e]
  have hL := loaded m c
  rw [← blk1 m c t, ← blk2 m c t, ← blk3 m c t, ← blk4 m c t, ← blk5 m c t, ← blk6 m c t, ← blk7 m c t] at hL
  refine (block_apply y0 h l hL hf ?_).trans ?_
  · unfold RowRegular
    rw [hrow]
    exact hr _
  · rw [hrow]
    unfold result
    congr 1
    exact Fin.ext (show l.val = (h.val * 64 + l.val) % 64 by omega)

end Cert.Quant

end
-- ==== Proof.RefValue.lean ====
/- What the reference computes, stage by stage at an index: the specification of a row. -/
module

public import proofs.«01_k».proof.Proof.Result
public import proofs.«01_k».proof.Proof.Count
public import proofs.«01_k».proof.Proof.Gen.ReferenceIdeal.Read
public import Idealize.ShloMosaic.Lib.Pointwise

@[expose] public section

set_option maxRecDepth 16384

noncomputable section

namespace Cert.Quant

open Idealize.ShloMosaic Idealize.ShloMosaic.TcCoe Idealize.SL.Sem Cert.ReferenceIdeal Cert.ReferenceIdeal.Gen Cert.ReferenceIdeal.Read

/-- An array of numbers read at words: where the word is that of `a`, the entry is the array's at `a`. -/
theorem gather_entry (x : FVec Ideal S256 .f32) (i : IVec S262144x64x1 32) (r : Fin 262144) (k : Fin 64) (a : Fin 256)
    (h : i (ix3 r k 0) = BitVec.ofNat 32 a.val) :
    Host.gather gather_S256_S262144x64x1_S262144x64_n_0_n_n_0_2_1 x i (ix2 r k) = x (ix1 a) := by
  have hs : gather_S256_S262144x64x1_S262144x64_n_0_n_n_0_2_1.siIdx (ix2 r k) ⟨0, by decide⟩ = ix3 r k 0 := by
    funext b
    fin_cases b <;> rfl
  have hn : (BitVec.ofNat 32 a.val).toInt.toNat = a.val :=
    (by decide +kernel : ∀ a : Fin 256, (BitVec.ofNat 32 a.val).toInt.toNat = a.val) a
  refine congrArg x (funext fun b => Fin.ext ?_)
  obtain rfl : b = 0 := Subsingleton.elim _ _
  show gather_S256_S262144x64x1_S262144x64_n_0_n_n_0_2_1.start (ix2 r k) i 0 + 0 + 0 = a.val
  have e : gather_S256_S262144x64x1_S262144x64_n_0_n_n_0_2_1.start (ix2 r k) i 0 =
      min (i (gather_S256_S262144x64x1_S262144x64_n_0_n_n_0_2_1.siIdx (ix2 r k) ⟨0, by decide⟩)).toInt.toNat (256 - 1) := rfl
  rw [e, hs, h, hn]
  omega

section
variable (A0 : Vec Ideal S256x1024x64 .f32) (A1 : Vec Ideal S1x64 .f32) (A2 : Vec Ideal S64x64 .f32) (A3 : Vec Ideal S256 .f32)

/-- The arguments as functions. -/
abbrev fIn : Fin 256 → Fin 1024 → Fin 64 → EReal := fun a b k => A0 (ix3 a b k)
abbrev fSigns : Fin 64 → EReal := fun k => A1 (ix2 0 k)
abbrev fMatrix : Fin 64 → Fin 64 → EReal := fun k l => A2 (ix2 k l)
abbrev fLevels : Fin 256 → EReal := fun i => A3 (ix1 i)
/-- The rotated row. -/
abbrev fRot (r : Fin 262144) : Fin 64 → EReal := rot (rowAt (fIn A0) r) (fSigns A1) (fMatrix A2)

/-- The rows. -/
theorem ref_row (r : Fin 262144) (k : Fin 64) : val_main_v0 (F := Ideal) A0 (ix2 r k) = rowAt (fIn A0) r k := by
  pointwise [val_main_v0]
  rfl

/-- The norms. -/
theorem ref_norm (r : Fin 262144) : val_main_v6 (F := Ideal) A0 (ix2 r 0) = norm (rowAt (fIn A0) r) := by
  pointwise [val_main_v6, val_main_v5, val_main_v4, val_main_v3, val_main_v2, val_main_v1, val_main_cst, val_main_cst_0]
  simp only [ref_row]
  rfl

/-- The rotated rows. -/
theorem ref_rot (r : Fin 262144) (l : Fin 64) : val_main_v15 (F := Ideal) A0 A1 A2 (ix2 r l) = fRot A0 A1 A2 r l := by
  pointwise [val_main_v15, val_main_v14, val_main_v13, val_main_v12, val_main_v11, val_main_v10, val_main_v9, val_main_v8, val_main_v7, val_main_cst_1]
  simp only [ref_row, ref_norm]
  rfl

/-- The greatest magnitudes. -/
theorem ref_top (r : Fin 262144) : val_main_v20 (F := Ideal) A0 A1 A2 (ix2 r 0) = top (fRot A0 A1 A2 r) := by
  pointwise [val_main_v20, val_main_v19, val_main_v18, val_main_cst_2]
  simp only [ref_rot]
  rw [negInf_eq]
  rfl

/-- The scales of the first pass. -/
theorem ref_rms (r : Fin 262144) : val_main_v22 (F := Ideal) A0 A1 A2 A3 (ix2 r 0) = rms (fLevels A3) (fRot A0 A1 A2 r) := by
  have e : val_main_v21 (F := Ideal) A3 (ix2 r 0) = A3 (ix1 255) := by
    pointwise [val_main_v21, val_main_v17, val_main_v16]
  have e' : val_main_v22 (F := Ideal) A0 A1 A2 A3 (ix2 r 0) =
      Ideal.div (val_main_v20 (F := Ideal) A0 A1 A2 (ix2 r 0)) (val_main_v21 (F := Ideal) A3 (ix2 r 0)) := rfl
  rw [e', e, ref_top]
  rfl

/-- The values that the first pass quantises. -/
theorem ref_val1 (r : Fin 262144) (l : Fin 64) :
    val_main_v26 (F := Ideal) A0 A1 A2 A3 (ix2 r l) = val1 (fLevels A3) (fRot A0 A1 A2 r) l := by
  pointwise [val_main_v26, val_main_v25, val_main_v24, val_main_v23, val_main_cst_3]
  rw [ref_rms, ref_rot]
  rfl

/-- The boundaries, and the same again for the second pass. -/
theorem ref_bounds (i : Fin 255) : val_main_v31 (F := Ideal) A3 (ix1 i) = bnd (fLevels A3) i := by
  pointwise [val_main_v31, val_main_v30, val_main_v29, val_main_v28, val_main_v27, val_main_cst_4]
  have e : (⟨1 + i.val, by omega⟩ : Fin 256) = i.succ := by ext; simp; omega
  show (A3 (ix1 ⟨i.val, _⟩) + A3 (ix1 ⟨1 + i.val, _⟩)) * half = _
  erw [e]
  rfl
theorem ref_bounds2 (i : Fin 255) : val_main_v73 (F := Ideal) A3 (ix1 i) = bnd (fLevels A3) i := ref_bounds A3 i

/-- The levels' numbers of the first pass. -/
theorem ref_idx1 (r : Fin 262144) (l : Fin 64) :
    val_main_v38 (F := Ideal) A0 A1 A2 A3 (ix2 r l) = BitVec.ofNat 32 (idx (fLevels A3) (val1 (fLevels A3) (fRot A0 A1 A2 r) l)).val := by
  pointwise [val_main_v38, val_main_v37, val_main_v36, val_main_v35, val_main_v34, val_main_v33, val_main_v32, val_main_c]
  exact count_idx _ _ _ _ (ref_bounds A3) (ref_val1 A0 A1 A2 A3 r l) _

/-- A number of a level is not negative, so that indexing from the end never applies. -/
theorem wrap_word (a : Fin 256) (b : BitVec 32) (h : b = BitVec.ofNat 32 a.val) :
    Scalar.select (IntOp.cmpi CmpIPredicate.slt b 0#32) (IntOp.addi b 256#32) b = BitVec.ofNat 32 a.val := by
  subst h
  rw [cmp_neg_bit]
  simp [Scalar.select]

/-- The levels of the first pass. -/
theorem ref_rec1 (r : Fin 262144) (l : Fin 64) :
    val_main_v45 (F := Ideal) A0 A1 A2 A3 (ix2 r l) = rec1 (fLevels A3) (fRot A0 A1 A2 r) l := by
  refine gather_entry A3 (val_main_v44 (F := Ideal) A0 A1 A2 A3) r l (idx (fLevels A3) (val1 (fLevels A3) (fRot A0 A1 A2 r) l)) ?_
  pointwise [val_main_v44, val_main_v43, val_main_v42, val_main_v41, val_main_v40, val_main_v39, val_main_c_5, val_main_c_6]
  exact wrap_word _ _ (ref_idx1 A0 A1 A2 A3 r l)

/-- The scales of the second pass. -/
theorem ref_gamma1 (r : Fin 262144) : val_main_v54 (F := Ideal) A0 A1 A2 A3 (ix2 r 0) = gamma1 (fLevels A3) (fRot A0 A1 A2 r) := by
  pointwise [val_main_v54, val_main_v53, val_main_v52, val_main_v51, val_main_v50, val_main_v49, val_main_v48, val_main_v47, val_main_v46, val_main_cst_7, val_main_cst_8, val_main_cst_9]
  simp only [ref_rec1, ref_rot]
  rfl

/-- The values that the second pass quantises. -/
theorem ref_val2 (r : Fin 262144) (l : Fin 64) :
    val_main_v58 (F := Ideal) A0 A1 A2 A3 (ix2 r l) = val2 (fLevels A3) (fRot A0 A1 A2 r) l := by
  pointwise [val_main_v58, val_main_v57, val_main_v56, val_main_v55, val_main_cst_10]
  rw [ref_gamma1, ref_rot]
  rfl

/-- The greatest magnitudes over the means. -/
theorem ref_ratio (r : Fin 262144) :
    val_main_v66 (F := Ideal) A0 A1 A2 (ix2 r 0) = Ideal.div (top (fRot A0 A1 A2 r)) (mean (fRot A0 A1 A2 r)) := by
  pointwise [val_main_v66, val_main_v65, val_main_v64, val_main_v63, val_main_v62, val_main_v61, val_main_v60, val_main_v59, val_main_cst_11, val_main_cst_12, val_main_cst_13]
  simp only [ref_rot, ref_top]
  rfl

open Classical in
/-- Which rows are spiky. -/
theorem ref_spiky (r : Fin 262144) :
    val_main_v68 (F := Ideal) A0 A1 A2 (ix2 r 0) = BitVec.ofBool (decide (spiky (fRot A0 A1 A2 r))) := by
  have e : val_main_v68 (F := Ideal) A0 A1 A2 (ix2 r 0) = BitVec.ofBool (decide (five < val_main_v66 (F := Ideal) A0 A1 A2 (ix2 r 0))) := by
    pointwise [val_main_v68, val_main_v67, val_main_cst_14]
  rw [e, ref_ratio]
  unfold spiky
  congr!

/-- The levels' numbers of the second pass. -/
theorem ref_idx2 (r : Fin 262144) (l : Fin 64) :
    val_main_v80 (F := Ideal) A0 A1 A2 A3 (ix2 r l) = BitVec.ofNat 32 (idx (fLevels A3) (val2 (fLevels A3) (fRot A0 A1 A2 r) l)).val := by
  pointwise [val_main_v80, val_main_v79, val_main_v78, val_main_v77, val_main_v76, val_main_v75, val_main_v74, val_main_c_16]
  exact count_idx _ _ _ _ (ref_bounds2 A3) (ref_val2 A0 A1 A2 A3 r l) _

/-- The scales that are kept. -/
theorem ref_gam (r : Fin 262144) : val_main_v81 (F := Ideal) A0 A1 A2 A3 (ix2 r 0) = gam (fLevels A3) (fRot A0 A1 A2 r) := by
  pointwise [val_main_v81]
  rw [ref_spiky, ref_rms, ref_gamma1, select_bit]
  rfl

/-- The levels that are kept. -/
theorem ref_rec2 (r : Fin 262144) (l : Fin 64) :
    val_main_v89 (F := Ideal) A0 A1 A2 A3 (ix2 r l) = rec2 (fLevels A3) (fRot A0 A1 A2 r) l := by
  classical
  refine gather_entry A3 (val_main_v88 (F := Ideal) A0 A1 A2 A3) r l
    (idx (fLevels A3) (if spiky (fRot A0 A1 A2 r) then val1 (fLevels A3) (fRot A0 A1 A2 r) l else val2 (fLevels A3) (fRot A0 A1 A2 r) l)) ?_ |>.trans ?_
  · pointwise [val_main_v88, val_main_v87, val_main_v86, val_main_v85, val_main_v84, val_main_v83, val_main_c_17, val_main_c_18]
    refine wrap_word _ _ ?_
    pointwise [val_main_v82, val_main_call1_v0]
    rw [ref_spiky, ref_idx1, ref_idx2, select_bit]
    split <;> rfl
  · unfold rec2 lev
    congr!

/-- The result. -/
theorem ref_result (p : Fin 131072) (q : Fin 128) :
    val_main_v101 (F := Ideal) A0 A1 A2 A3 (ix2 p q) = result (fIn A0) (fSigns A1) (fMatrix A2) (fLevels A3) p q := by
  pointwise [val_main_v101, val_main_v100, val_main_v99, val_main_v98, val_main_v97, val_main_v96, val_main_v95, val_main_v94, val_main_v93, val_main_v92, val_main_v91, val_main_v90, val_main_cst_19]
  simp only [ref_rec2, ref_gam, ref_norm]
  have hp := p.isLt
  have hq := q.isLt
  have e : (⟨p.val * 2 + q.val / 64, by omega⟩ : Fin 262144) = rowNo p q :=
    Fin.ext (show p.val * 2 + q.val / 64 = 2 * p.val + q.val / 64 by omega)
  have e' := congrArg (fun r => out (rowAt (fIn A0) r) (fSigns A1) (fMatrix A2) (fLevels A3) ⟨q.val % 64, by omega⟩) e
  exact e'

end

end Cert.Quant

end
-- ==== Proof.PreFacts.lean ====
/- The side conditions of the precondition's operations: relations of shapes, each decided. -/
module

public import proofs.«01_k».proof.Pre_tame
public import Idealize.ShloMosaic.Lib.Decide

@[expose] public section

namespace Cert.Quant

/-- Every side condition the precondition states. -/
instance preFacts : Cert.Pre_tame.Facts where
  slices_S256_S255_0 := by decide
  slices_S256_S255_1 := by decide
  bcast_S_S255 := by decide
  shapeCasts_S256x1024x64_S262144x64 := by decide
  reducesTo_S262144x64_S262144_d1 := by decide
  h_S_ := by decide
  bcast_S262144_S262144x1_0 := by decide
  bcast_S_S262144x1 := by decide
  bcast_S262144x1_S262144x64_0_1 := by decide
  shapeCasts_S1x64_S64 := by decide
  bcast_S64_S1x64_1 := by decide
  bcast_S1x64_S262144x64_0_1 := by decide
  bcast_S_S262144x64 := by decide
  slices_S256_S1_255 := by decide
  shapeCasts_S1_S_ := by decide
  bcast_S262144x64_S262144x64x1_0_1 := by decide
  bcast_S255_S1x1x255_2 := by decide
  bcast_S1x1x255_S262144x64x255_0_1_2 := by decide
  bcast_S262144x64x1_S262144x64x255_0_1_2 := by decide
  natLt_1_32 := by decide
  reducesTo_S262144x64x255_S262144x64_d2 := by decide
  bcast_S_S1x64 := by decide
  bcast_S_S64x64 := by decide
  bcast_S_S256 := by decide
  slices_S255_S254_1 := by decide
  slices_S255_S254_0 := by decide
  bcast_S_S254 := by decide
  bcast_S_S262144x64x1 := by decide
  bcast_S262144x1_S262144x1x1_0_1 := by decide
  bcast_S262144x1x1_S262144x64x1_0_1_2 := by decide
  dot_S262144x64_S64x64_S262144x64_1_0_0_1_n_n_wf := by decide
  gather_S256_S262144x64x1_S262144x64_n_0_n_n_0_2_1_wf := by decide

end Cert.Quant

end
-- ==== Proof.PreRead.lean ====
/- What the precondition says of the arguments: that they fit the kernel's lookup and that every row is regular. -/
module

public import proofs.«01_k».proof.Proof.RefValue
public import proofs.«01_k».proof.Proof.KernelBlock
public import proofs.«01_k».proof.Proof.PreFacts

@[expose] public section

set_option maxRecDepth 16384

noncomputable section

namespace Cert.Quant

open Idealize.ShloMosaic Idealize.ShloMosaic.TcCoe Idealize.SL.Sem Cert.ReferenceIdeal Cert.ReferenceIdeal.Gen Cert.ReferenceIdeal.Read

/-- A bit that is set says its proposition. -/
theorem of_bit {p : Prop} [Decidable p] (h : BitVec.ofBool (decide p) = 1#1) : p := by
  by_contra hp
  simp [hp] at h

/-- One of two bits that is set. -/
theorem or_bits {a b : BitVec 1} (h : IntOp.ori a b = 1#1) : a = 1#1 ∨ b = 1#1 :=
  (by decide : ∀ a b : BitVec 1, IntOp.ori a b = 1#1 → a = 1#1 ∨ b = 1#1) a b h

/-- A magnitude below infinity is a real number's. -/
theorem isReal_of_lt {a : EReal} (h' : max a (-a) < Ideal.ofBits .f32 0x7F800000#32) : IsReal a := by
  rw [posInf_eq] at h'
  induction a with
  | bot => simp at h'
  | top => simp at h'
  | coe r => exact ⟨r, rfl⟩

section
variable (A0 : Vec Ideal S256x1024x64 .f32) (A1 : Vec Ideal S1x64 .f32) (A2 : Vec Ideal S64x64 .f32) (A3 : Vec Ideal S256 .f32)

/-! ## The conditions, over the reference's arrays -/

/-- The conditions. -/
abbrev pre := Cert.Pre_tame.fn (F := Ideal) A0 A1 A2 A3
/-- The first condition: the signs' magnitudes against infinity. -/
theorem pre1 : (pre A0 A1 A2 A3).1 = cmpf (F := Ideal) (φ := .f32) .olt (Host.absf A1 : FVec Ideal S1x64 .f32) (broadcastInDim S1x64 ![] Pre_tame.Facts.bcast_S_S1x64 (constant S_ .f32 0x7F800000#32)) :=
  rfl
/-- The second: the matrix's. -/
theorem pre2 : (pre A0 A1 A2 A3).2.1 = cmpf (F := Ideal) (φ := .f32) .olt (Host.absf A2 : FVec Ideal S64x64 .f32) (broadcastInDim S64x64 ![] Pre_tame.Facts.bcast_S_S64x64 (constant S_ .f32 0x7F800000#32)) :=
  rfl
/-- The third: the levels'. -/
theorem pre3 : (pre A0 A1 A2 A3).2.2.1 = cmpf (F := Ideal) (φ := .f32) .olt (Host.absf A3 : FVec Ideal S256 .f32) (broadcastInDim S256 ![] Pre_tame.Facts.bcast_S_S256 (constant S_ .f32 0x7F800000#32)) :=
  rfl
/-- The fourth: the levels against their negatives in reverse order. -/
theorem pre4 : (pre A0 A1 A2 A3).2.2.2.1 = cmpf (F := Ideal) (φ := .f32) .oeq A3 (Host.negf (Host.reverse [0] (A3 : FVec Ideal S256 .f32))) :=
  rfl
/-- The fifth: the last level against zero. -/
theorem pre5 : (pre A0 A1 A2 A3).2.2.2.2.1 = cmpf (F := Ideal) (φ := .f32) .ogt (shapeCast S_ (extractStridedSlice S1 ![255] A3 slices_S256_S1_255 : FVec Ideal S1 .f32) shapeCasts_S1_S_) (constant S_ .f32 0x00000000#32) :=
  rfl
/-- The sixth: the gaps between the boundaries against a cell and a little more. -/
theorem pre6 : (pre A0 A1 A2 A3).2.2.2.2.2.1 = cmpf (F := Ideal) (φ := .f32) .oge (subf (extractStridedSlice Pre_tame.S254 ![1] (val_main_v31 (F := Ideal) A3) Pre_tame.Facts.slices_S255_S254_1 : FVec Ideal Pre_tame.S254 .f32) (extractStridedSlice Pre_tame.S254 ![0] (val_main_v31 (F := Ideal) A3) Pre_tame.Facts.slices_S255_S254_0)) (broadcastInDim Pre_tame.S254 ![] Pre_tame.Facts.bcast_S_S254 (constant S_ .f32 0x3CA4A8C1#32)) :=
  rfl
/-- The seventh: the boundaries against the value at which the lookup clips. -/
theorem pre7 : (pre A0 A1 A2 A3).2.2.2.2.2.2.1 = cmpf (F := Ideal) (φ := .f32) .olt (val_main_v31 (F := Ideal) A3 : FVec Ideal S255 .f32) (broadcastInDim S255 ![] bcast_S_S255 (constant S_ .f32 0x40A33333#32)) :=
  rfl
/-- The eighth: the values of the first pass against zero and the boundaries. -/
theorem pre8 : (pre A0 A1 A2 A3).2.2.2.2.2.2.2.1 =
  ori (broadcastInDim S262144x64x255 ![0, 1, 2] bcast_S262144x64x1_S262144x64x255_0_1_2
    (cmpf (F := Ideal) (φ := .f32) .oge (val_main_v32 (F := Ideal) A0 A1 A2 A3 : FVec Ideal S262144x64x1 .f32) (broadcastInDim S262144x64x1 ![] Pre_tame.Facts.bcast_S_S262144x64x1 (constant S_ .f32 0x00000000#32))))
    (cmpf (F := Ideal) (φ := .f32) .une (val_main_v35 (F := Ideal) A0 A1 A2 A3 : FVec Ideal S262144x64x255 .f32) (val_main_v34 (F := Ideal) A3)) :=
  rfl
/-- The ninth: the same of the second pass, except in the spiky rows. -/
theorem pre9 : (pre A0 A1 A2 A3).2.2.2.2.2.2.2.2 =
  ori (broadcastInDim S262144x64x255 ![0, 1, 2] bcast_S262144x64x1_S262144x64x255_0_1_2
    (ori (broadcastInDim S262144x64x1 ![0, 1, 2] Pre_tame.Facts.bcast_S262144x1x1_S262144x64x1_0_1_2 (broadcastInDim Pre_tame.S262144x1x1 ![0, 1] Pre_tame.Facts.bcast_S262144x1_S262144x1x1_0_1 (val_main_v68 (F := Ideal) A0 A1 A2)))
     (cmpf (F := Ideal) (φ := .f32) .oge (val_main_v74 (F := Ideal) A0 A1 A2 A3 : FVec Ideal S262144x64x1 .f32) (broadcastInDim S262144x64x1 ![] Pre_tame.Facts.bcast_S_S262144x64x1 (constant S_ .f32 0x00000000#32)))))
    (cmpf (F := Ideal) (φ := .f32) .une (val_main_v77 (F := Ideal) A0 A1 A2 A3 : FVec Ideal S262144x64x255 .f32) (val_main_v76 (F := Ideal) A3)) :=
  rfl

/-! ## What they say -/

/-- The conditions together. -/
structure Tame : Prop where
  c1 : (pre A0 A1 A2 A3).1 = fun _ => 1#1
  c2 : (pre A0 A1 A2 A3).2.1 = fun _ => 1#1
  c3 : (pre A0 A1 A2 A3).2.2.1 = fun _ => 1#1
  c4 : (pre A0 A1 A2 A3).2.2.2.1 = fun _ => 1#1
  c5 : (pre A0 A1 A2 A3).2.2.2.2.1 = fun _ => 1#1
  c6 : (pre A0 A1 A2 A3).2.2.2.2.2.1 = fun _ => 1#1
  c7 : (pre A0 A1 A2 A3).2.2.2.2.2.2.1 = fun _ => 1#1
  c8 : (pre A0 A1 A2 A3).2.2.2.2.2.2.2.1 = fun _ => 1#1
  c9 : (pre A0 A1 A2 A3).2.2.2.2.2.2.2.2 = fun _ => 1#1

variable {A0 A1 A2 A3}

/-- The levels are real. -/
theorem Tame.level (t : Tame A0 A1 A2 A3) (i : Fin 256) : IsReal (fLevels A3 i) := by
  have h := t.c3
  rw [pre3] at h
  replace h := congrFun h (ix1 i)
  pointwise [] at h
  exact isReal_of_lt (of_bit h)

/-- The levels are antisymmetric. -/
theorem Tame.anti (t : Tame A0 A1 A2 A3) (i : Fin 256) : fLevels A3 i = -fLevels A3 i.rev := by
  have h := t.c4
  rw [pre4] at h
  replace h := congrFun h (ix1 i)
  pointwise [] at h
  exact of_bit h

/-- The boundaries are more than a cell apart. -/
theorem Tame.gap (t : Tame A0 A1 A2 A3) (i j : Fin 255) (hij : j.val = i.val + 1) :
    (gapR : EReal) ≤ bnd (fLevels A3) j - bnd (fLevels A3) i := by
  have h := t.c6
  rw [pre6] at h
  have hj := j.isLt
  replace h := congrFun h (ix1 (⟨i.val, by omega⟩ : Fin 254))
  pointwise [] at h
  replace h := of_bit h
  rw [gap_eq, ref_bounds, ref_bounds] at h
  have e : j = ⟨1 + i.val, by omega⟩ := Fin.ext (show j.val = 1 + i.val by omega)
  rw [e]
  exact h

/-- The boundaries are below the value at which the lookup clips. -/
theorem Tame.below (t : Tame A0 A1 A2 A3) (i : Fin 255) : bnd (fLevels A3) i < (clipR : EReal) := by
  have h := t.c7
  rw [pre7] at h
  replace h := congrFun h (ix1 i)
  pointwise [] at h
  replace h := of_bit h
  rw [clip_eq, ref_bounds] at h
  exact h

/-- The arguments fit the lookup. -/
theorem Tame.fits (t : Tame A0 A1 A2 A3) : Fits (fSigns A1) (fMatrix A2) (fLevels A3) where
  signs k := by
    have h := t.c1
    rw [pre1] at h
    replace h := congrFun h (ix2 0 k)
    pointwise [] at h
    exact isReal_of_lt (of_bit h)
  matrix k l := by
    have h := t.c2
    rw [pre2] at h
    replace h := congrFun h (ix2 k l)
    pointwise [] at h
    exact isReal_of_lt (of_bit h)
  levels :=
    { real := by
        choose C hC using t.level
        exact ⟨C, hC⟩
      anti := t.anti
      gap := t.gap
      below := t.below }
  pos := by
    have h := t.c5
    rw [pre5] at h
    replace h := congrFun h (fun a => a.elim0)
    pointwise [] at h
    exact of_bit h

/-- Every row is regular. -/
theorem Tame.regular (t : Tame A0 A1 A2 A3) (r : Fin 262144) : Regular (fLevels A3) (fRot A0 A1 A2 r) where
  first l := by
    by_cases h0 : 0 ≤ val1 (fLevels A3) (fRot A0 A1 A2 r) l
    · exact Or.inl h0
    · refine Or.inr fun i => ?_
      have h := t.c8
      rw [pre8] at h
      replace h := congrFun h (ix3 r l i)
      pointwise [val_main_v35, val_main_v34, val_main_v33, val_main_v32] at h
      rcases or_bits h with h | h
      · have h' := of_bit h
        rw [ref_val1] at h'
        exact absurd h' h0
      · have h' := of_bit h
        rw [ref_val1, ref_bounds] at h'
        exact h'
  second l := by
    by_cases hs : spiky (fRot A0 A1 A2 r)
    · exact Or.inl hs
    by_cases h0 : 0 ≤ val2 (fLevels A3) (fRot A0 A1 A2 r) l
    · exact Or.inr (Or.inl h0)
    · refine Or.inr (Or.inr fun i => ?_)
      have h := t.c9
      rw [pre9] at h
      replace h := congrFun h (ix3 r l i)
      pointwise [val_main_v77, val_main_v76, val_main_v75, val_main_v74] at h
      rcases or_bits h with h | h
      · rcases or_bits h with h | h
        · classical
          rw [ref_spiky] at h
          exact absurd (of_bit h) hs
        · have h' := of_bit h
          rw [ref_val2] at h'
          exact absurd h' h0
      · have h' := of_bit h
        rw [ref_val2, ref_bounds2] at h'
        exact h'

end

end Cert.Quant

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArray
public import proofs.«01_k».proof.Proof.PreRead
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel runs over the machine's own floats, its arguments end as they began, every counter at zero. -/
theorem frame_kernel : Cert.quiescent_Kernel (hKernel := Cert.Kernel.Gen.facts) := fun m ρ _ => Cert.Kernel.Gen.frame m ρ

/-- The same over the extended reals. -/
theorem frame_kernelIdeal : Cert.quiescent_KernelIdeal (hKernelIdeal := Cert.KernelIdeal.Gen.facts) :=
  fun m ρ _ => Cert.KernelIdeal.Gen.frame m ρ

/-- The reference runs over the extended reals and its arguments end as they began; it has no counter. -/
theorem frame_referenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run m ρ)

/-- On tame arguments the kernel and the reference leave the same array: both leave the result of the specification. -/
theorem algebraic : Cert.algebraic_KernelIdeal_ReferenceIdeal_pre_tame (hKernelIdeal := Cert.KernelIdeal.Gen.facts)
    (hReferenceIdeal := Cert.ReferenceIdeal.Gen.facts) (hPre_tame := Cert.Quant.preFacts) := by
  intro m g m' g' hpre hargs
  have ht : ∀ c : Dev Cert.KernelIdeal.nD, Cert.Quant.Tame (m ((c.tc).loc Cert.KernelIdeal.main_arg0)) (m ((c.tc).loc Cert.KernelIdeal.main_arg1))
      (m ((c.tc).loc Cert.KernelIdeal.main_arg2)) (m ((c.tc).loc Cert.KernelIdeal.main_arg3)) := fun c => by
    obtain ⟨h1, h2, h3, h4, h5, h6, h7, h8, h9⟩ := hpre c
    exact ⟨h1, h2, h3, h4, h5, h6, h7, h8, h9⟩
  refine ⟨fun c => (fun i => Cert.Quant.result (Cert.Quant.inOf m c) (Cert.Quant.signsOf m c) (Cert.Quant.matrixOf m c)
    (Cert.Quant.centresOf m c) (i 0) (i 1) : Vec Ideal Cert.KernelIdeal.S131072x128 .f32), ?_, ?_⟩
  · refine (θ_run (Cert.KernelIdeal.defs (F := Ideal)) _ _).mono (fun r h c => ?_) (Cert.KernelIdeal.Value.run_blocks m g)
    refine ⟨(h c).1.trans ?_, (h c).2⟩
    exact Cert.Quant.kernel_array m c (ht c).fits (ht c).regular
  · refine (θ_run (Cert.ReferenceIdeal.defs (F := Ideal)) _ _).mono (fun r h c => ?_) (Cert.ReferenceIdeal.Value.run m' g')
    refine ⟨(h c).1.trans ?_, (h c).2⟩
    obtain ⟨e0, e1, e2, e3⟩ := hargs c
    refine (Cert.ReferenceIdeal.Read.val_main_v101_eq _).trans ?_
    funext i
    obtain ⟨p, q, rfl⟩ : ∃ (p : Fin 131072) (q : Fin 128), ix2 p q = i := ⟨i 0, i 1, by funext a; fin_cases a <;> rfl⟩
    refine (Cert.Quant.ref_result _ _ _ _ p q).trans ?_
    have l0 : StableHlo.launchContents m' c (Proc.tc.devRef Cert.ReferenceIdeal.main_arg0) = m ((c.tc).loc Cert.KernelIdeal.main_arg0) := e0
    have l1 : StableHlo.launchContents m' c (Proc.tc.devRef Cert.ReferenceIdeal.main_arg1) = m ((c.tc).loc Cert.KernelIdeal.main_arg1) := e1
    have l2 : StableHlo.launchContents m' c (Proc.tc.devRef Cert.ReferenceIdeal.main_arg2) = m ((c.tc).loc Cert.KernelIdeal.main_arg2) := e2
    have l3 : StableHlo.launchContents m' c (Proc.tc.devRef Cert.ReferenceIdeal.main_arg3) = m ((c.tc).loc Cert.KernelIdeal.main_arg3) := e3
    rw [l0, l1, l2, l3]
    rfl

/-- The claim: the side conditions, then its conjuncts. -/
theorem claim : Cert.Claim :=
  ⟨Cert.Kernel.Gen.facts, Cert.KernelIdeal.Gen.facts, Cert.ReferenceIdeal.Gen.facts, Cert.Quant.preFacts, frame_kernel, frame_kernelIdeal,
    fun m ρ _ => Cert.KernelIdeal.Gen.frame m ρ, frame_referenceIdeal, fun m ρ _ => frame_referenceIdeal m ρ trivial, trivial, algebraic⟩

end Cert.Proof

end
